-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_bias [hPre_zero_bias : Cert.Pre_zero_bias.Facts] (m : (ℓ : Loc Cert.KernelIdeal.nD Cert.KernelIdeal.τ Cert.KernelIdeal.sig) → Buf (Elt Ideal) ℓ) : Prop :=
  ∀ c : Dev Cert.KernelIdeal.nD,
    (Cert.Pre_zero_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_bias [hPre_zero_bias : Cert.Pre_zero_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_zero_bias [hKernelIdeal : Cert.KernelIdeal.Facts] [hPre_zero_bias : Cert.Pre_zero_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_zero_bias [hReferenceIdeal : Cert.ReferenceIdeal.Facts] [hPre_zero_bias : Cert.Pre_zero_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_zero_bias [hKernelIdeal : Cert.KernelIdeal.Facts] [hReferenceIdeal : Cert.ReferenceIdeal.Facts] [hPre_zero_bias : Cert.Pre_zero_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_zero_bias : Cert.Pre_zero_bias.Facts),
    quiescent_Kernel (hKernel := hKernel)
    ∧ quiescent_KernelIdeal (hKernelIdeal := hKernelIdeal)
    ∧ quiescent_KernelIdeal_pre_zero_bias (hKernelIdeal := hKernelIdeal) (hPre_zero_bias := hPre_zero_bias)
    ∧ quiescent_ReferenceIdeal (hReferenceIdeal := hReferenceIdeal)
    ∧ quiescent_ReferenceIdeal_pre_zero_bias (hReferenceIdeal := hReferenceIdeal) (hPre_zero_bias := hPre_zero_bias)
    ∧ preserves_Kernel_KernelIdeal
    ∧ algebraic_KernelIdeal_ReferenceIdeal_pre_zero_bias (hKernelIdeal := hKernelIdeal) (hReferenceIdeal := hReferenceIdeal) (hPre_zero_bias := hPre_zero_bias)
-- ==== Pre_zero_bias.lean ====
abbrev S50000x256 : Shape := ⟨2, ![50000, 256]⟩
abbrev S50000 : Shape := ⟨1, ![50000]⟩
abbrev S4x128x256 : Shape := ⟨3, ![4, 128, 256]⟩
abbrev S4x128 : Shape := ⟨2, ![4, 128]⟩
abbrev S256x1024 : Shape := ⟨2, ![256, 1024]⟩
abbrev S256 : Shape := ⟨1, ![256]⟩
abbrev S_ : Shape := ⟨0, ![]⟩

class Facts : Prop where
  bcast_S_S4x128 : S_.BroadcastsInDim S4x128 (![] : Fin 0 → Fin S4x128.rank)

variable [Facts]

def fn {F : FTy → Type} [FloatOps F] (main_arg0 : FVec F S50000x256 .f32) (main_arg1 : IVec S50000 32) (main_arg2 : FVec F S4x128x256 .f32) (main_arg3 : FVec F S4x128 .f32) (main_arg4 : FVec F S4x128 .f32) (main_arg5 : FVec F S256x1024 .f32) (main_arg6 : FVec F S256 .f32) : IVec S4x128 1 :=
  let main_cst : FVec F S_ .f32 := constant S_ .f32 0x00000000#32
  let main_v0 : FVec F S4x128 .f32 := broadcastInDim S4x128 ![] bcast_S_S4x128 main_cst
  let main_v1 : IVec S4x128 1 := cmpf .oeq main_arg3 main_v0
  main_v1
-- ==== Kernel.lean ====
abbrev S50000x256 : Shape := ⟨2, ![50000, 256]⟩
abbrev S50000 : Shape := ⟨1, ![50000]⟩
abbrev S4x128x256 : Shape := ⟨3, ![4, 128, 256]⟩
abbrev S4x128 : Shape := ⟨2, ![4, 128]⟩
abbrev S256x1024 : Shape := ⟨2, ![256, 1024]⟩
abbrev S256 : Shape := ⟨1, ![256]⟩
abbrev S5x1x10000 : Shape := ⟨3, ![5, 1, 10000]⟩
abbrev S512x256 : Shape := ⟨2, ![512, 256]⟩
abbrev S1x512 : Shape := ⟨2, ![1, 512]⟩
abbrev S1x256 : Shape := ⟨2, ![1, 256]⟩
abbrev S64x256 : Shape := ⟨2, ![64, 256]⟩
abbrev S10000x256 : Shape := ⟨2, ![10000, 256]⟩
abbrev S1x1x10000 : Shape := ⟨3, ![1, 1, 10000]⟩
abbrev S256x256 : Shape := ⟨2, ![256, 256]⟩
abbrev S256x1 : Shape := ⟨2, ![256, 1]⟩
abbrev S10000x512 : Shape := ⟨2, ![10000, 512]⟩
abbrev S512x128 : Shape := ⟨2, ![512, 128]⟩
abbrev S10000x128 : Shape := ⟨2, ![10000, 128]⟩
abbrev S128x10000 : Shape := ⟨2, ![128, 10000]⟩
abbrev S4x10000 : Shape := ⟨2, ![4, 10000]⟩
abbrev S1x10000 : Shape := ⟨2, ![1, 10000]⟩
abbrev S64x10000 : Shape := ⟨2, ![64, 10000]⟩
abbrev S256x10000 : Shape := ⟨2, ![256, 10000]⟩
abbrev S64x1 : Shape := ⟨2, ![64, 1]⟩

abbrev nBuf : Space → Nat
  | .hbm => 14
  | .vmem => 11
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S4x128x256, .f32⟩
  | .hbm, ⟨3, _⟩ => ⟨S4x128, .f32⟩
  | .hbm, ⟨4, _⟩ => ⟨S4x128, .f32⟩
  | .hbm, ⟨5, _⟩ => ⟨S256x1024, .f32⟩
  | .hbm, ⟨6, _⟩ => ⟨S256, .f32⟩
  | .hbm, ⟨7, _⟩ => ⟨S5x1x10000, .i32⟩
  | .hbm, ⟨8, _⟩ => ⟨S512x256, .f32⟩
  | .hbm, ⟨9, _⟩ => ⟨S512x256, .bf16⟩
  | .hbm, ⟨10, _⟩ => ⟨S1x512, .f32⟩
  | .hbm, ⟨11, _⟩ => ⟨S1x512, .bf16⟩
  | .hbm, ⟨12, _⟩ => ⟨S1x256, .f32⟩
  | .hbm, ⟨13, _⟩ => ⟨S64x256, .f32⟩
  | .local _ .vmem, ⟨0, _⟩ => ⟨S10000x256, .f32⟩
  | .local _ .vmem, ⟨1, _⟩ => ⟨S10000x256, .f32⟩
  | .local _ .vmem, ⟨2, _⟩ => ⟨S1x1x10000, .i32⟩
  | .local _ .vmem, ⟨3, _⟩ => ⟨S1x1x10000, .i32⟩
  | .local _ .vmem, ⟨4, _⟩ => ⟨S512x256, .bf16⟩
  | .local _ .vmem, ⟨5, _⟩ => ⟨S1x512, .bf16⟩
  | .local _ .vmem, ⟨6, _⟩ => ⟨S256x1024, .f32⟩
  | .local _ .vmem, ⟨7, _⟩ => ⟨S1x256, .f32⟩
  | .local _ .vmem, ⟨8, _⟩ => ⟨S64x256, .f32⟩
  | .local _ .vmem, ⟨9, _⟩ => ⟨S256x256, .f32⟩
  | .local _ .vmem, ⟨10, _⟩ => ⟨S256x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v88 : BitVec 1 := Scalar.cmpi .eq arg0 c4_i32
  let v89 : BitVec 32 := Scalar.extui v88
  let c0_i32_29 : BitVec 32 := 0#32
  let v90 : BitVec 1 := Scalar.cmpi .ne v89 c0_i32_29
  v90

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S50000x256 : Shape := ⟨2, ![50000, 256]⟩
abbrev S50000 : Shape := ⟨1, ![50000]⟩
abbrev S4x128x256 : Shape := ⟨3, ![4, 128, 256]⟩
abbrev S4x128 : Shape := ⟨2, ![4, 128]⟩
abbrev S256x1024 : Shape := ⟨2, ![256, 1024]⟩
abbrev S256 : Shape := ⟨1, ![256]⟩
abbrev S1x128x256 : Shape := ⟨3, ![1, 128, 256]⟩
abbrev S128x256 : Shape := ⟨2, ![128, 256]⟩
abbrev S256x128 : Shape := ⟨2, ![256, 128]⟩
abbrev S50000x128 : Shape := ⟨2, ![50000, 128]⟩
abbrev S1x128 : Shape := ⟨2, ![1, 128]⟩
abbrev S128 : Shape := ⟨1, ![128]⟩
abbrev S50000x1 : Shape := ⟨2, ![50000, 1]⟩
abbrev S64 : Shape := ⟨1, ![64]⟩
abbrev S1x64 : Shape := ⟨2, ![1, 64]⟩
abbrev S50000x64 : Shape := ⟨2, ![50000, 64]⟩
abbrev S_ : Shape := ⟨0, ![]⟩
abbrev S64x256 : Shape := ⟨2, ![64, 256]⟩
abbrev S64x1024 : Shape := ⟨2, ![64, 1024]⟩
abbrev S1024x256 : Shape := ⟨2, ![1024, 256]⟩
abbrev S1x256 : Shape := ⟨2, ![1, 256]⟩

abbrev nBuf : Space → Nat
  | .hbm => 305
  | .vmem => 0
  | .smem => 0
  | _ => 0

abbrev hbmTy0_0 (i : Nat) : BufTy := match i % 128 with
  | 0 => ⟨S50000x256, .f32⟩
  | 1 => ⟨S50000, .i32⟩
  | 2 => ⟨S4x128x256, .f32⟩
  | 3 => ⟨S4x128, .f32⟩
  | 4 => ⟨S4x128, .f32⟩
  | 5 => ⟨S256x1024, .f32⟩
  | 6 => ⟨S256, .f32⟩
  | 7 => ⟨S1x128x256, .f32⟩
  | 8 => ⟨S128x256, .f32⟩
  | 9 => ⟨S256x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S50000x128, .f32⟩
  | 17 => ⟨S1x128, .f32⟩
  | 18 => ⟨S128, .f32⟩
  | 19 => ⟨S50000, .f32⟩
  | 20 => ⟨S50000x1, .i32⟩
  | 21 => ⟨S64, .i32⟩
  | 22 => ⟨S1x64, .i32⟩
  | 23 => ⟨S50000x64, .i32⟩
  | 24 => ⟨S50000x64, .i32⟩
  | 25 => ⟨S50000x64, .i1⟩
  | 26 => ⟨S50000x1, .f32⟩
  | 27 => ⟨S_, .f32⟩
  | 28 => ⟨S_, .f32⟩
  | 29 => ⟨S50000x64, .f32⟩
  | 30 => ⟨S50000x64, .f32⟩
  | 31 => ⟨S50000x64, .f32⟩
  | 32 => ⟨S_, .f32⟩
  | 33 => ⟨S64, .f32⟩
  | 34 => ⟨S64, .f32⟩
  | 35 => ⟨S_, .f32⟩
  | 36 => ⟨S64, .f32⟩
  | 37 => ⟨S64, .i1⟩
  | 38 => ⟨S_, .f32⟩
  | 39 => ⟨S_, .f32⟩
  | 40 => ⟨S64, .f32⟩
  | 41 => ⟨S64, .f32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000, .f32⟩
  | 51 => ⟨S50000, .f32⟩
  | 52 => ⟨S50000, .f32⟩
  | 53 => ⟨S_, .f32⟩
  | 54 => ⟨S64, .f32⟩
  | 55 => ⟨S50000x1, .i32⟩
  | 56 => ⟨S64, .f32⟩
  | 57 => ⟨S_, .i32⟩
  | 58 => ⟨S50000, .i32⟩
  | 59 => ⟨S50000, .i1⟩
  | 60 => ⟨S_, .i32⟩
  | 61 => ⟨S50000, .i32⟩
  | 62 => ⟨S50000, .i32⟩
  | 63 => ⟨S50000, .i32⟩
  | 64 => ⟨S50000x1, .i32⟩
  | 65 => ⟨S50000, .f32⟩
  | 66 => ⟨S50000, .f32⟩
  | 67 => ⟨S50000, .f32⟩
  | 68 => ⟨S_, .f32⟩
  | 69 => ⟨S50000, .f32⟩
  | 70 => ⟨S50000, .f32⟩
  | 71 => ⟨S50000, .f32⟩
  | 72 => ⟨S50000, .f32⟩
  | 73 => ⟨S50000x1, .f32⟩
  | 74 => ⟨S50000x256, .f32⟩
  | 75 => ⟨S50000x256, .f32⟩
  | 76 => ⟨S_, .f32⟩
  | 77 => ⟨S64x256, .f32⟩
  | 78 => ⟨S50000x1, .i32⟩
  | 79 => ⟨S64x256, .f32⟩
  | 80 => ⟨S1x128x256, .f32⟩
  | 81 => ⟨S128x256, .f32⟩
  | 82 => ⟨S256x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S50000x128, .f32⟩
  | 90 => ⟨S1x128, .f32⟩
  | 91 => ⟨S128, .f32⟩
  | 92 => ⟨S50000, .f32⟩
  | 93 => ⟨S50000x1, .i32⟩
  | 94 => ⟨S64, .i32⟩
  | 95 => ⟨S1x64, .i32⟩
  | 96 => ⟨S50000x64, .i32⟩
  | 97 => ⟨S50000x64, .i32⟩
  | 98 => ⟨S50000x64, .i1⟩
  | 99 => ⟨S50000x1, .f32⟩
  | 100 => ⟨S_, .f32⟩
  | 101 => ⟨S_, .f32⟩
  | 102 => ⟨S50000x64, .f32⟩
  | 103 => ⟨S50000x64, .f32⟩
  | 104 => ⟨S50000x64, .f32⟩
  | 105 => ⟨S_, .f32⟩
  | 106 => ⟨S64, .f32⟩
  | 107 => ⟨S64, .f32⟩
  | 108 => ⟨S_, .f32⟩
  | 109 => ⟨S64, .f32⟩
  | 110 => ⟨S64, .i1⟩
  | 111 => ⟨S_, .f32⟩
  | 112 => ⟨S_, .f32⟩
  | 113 => ⟨S64, .f32⟩
  | 114 => ⟨S64, .f32⟩
  | 115 => ⟨S_, .i32⟩
  | 116 => ⟨S50000, .i32⟩
  | 117 => ⟨S50000, .i1⟩
  | 118 => ⟨S_, .i32⟩
  | 119 => ⟨S50000, .i32⟩
  | 120 => ⟨S50000, .i32⟩
  | 121 => ⟨S50000, .i32⟩
  | 122 => ⟨S50000x1, .i32⟩
  | 123 => ⟨S50000, .f32⟩
  | 124 => ⟨S50000, .f32⟩
  | 125 => ⟨S50000, .f32⟩
  | 126 => ⟨S_, .f32⟩
  | 127 => ⟨S64, .f32⟩
  | _ => ⟨S50000x256, .f32⟩

abbrev hbmTy0_1 (i : Nat) : BufTy := match i % 128 with
  | 0 => ⟨S50000x1, .i32⟩
  | 1 => ⟨S64, .f32⟩
  | 2 => ⟨S_, .i32⟩
  | 3 => ⟨S50000, .i32⟩
  | 4 => ⟨S50000, .i1⟩
  | 5 => ⟨S_, .i32⟩
  | 6 => ⟨S50000, .i32⟩
  | 7 => ⟨S50000, .i32⟩
  | 8 => ⟨S50000, .i32⟩
  | 9 => ⟨S50000x1, .i32⟩
  | 10 => ⟨S50000, .f32⟩
  | 11 => ⟨S50000, .f32⟩
  | 12 => ⟨S50000, .f32⟩
  | 13 => ⟨S_, .f32⟩
  | 14 => ⟨S50000, .f32⟩
  | 15 => ⟨S50000, .f32⟩
  | 16 => ⟨S50000, .f32⟩
  | 17 => ⟨S50000, .f32⟩
  | 18 => ⟨S50000x1, .f32⟩
  | 19 => ⟨S50000x256, .f32⟩
  | 20 => ⟨S50000x256, .f32⟩
  | 21 => ⟨S_, .f32⟩
  | 22 => ⟨S64x256, .f32⟩
  | 23 => ⟨S50000x1, .i32⟩
  | 24 => ⟨S64x256, .f32⟩
  | 25 => ⟨S1x128x256, .f32⟩
  | 26 => ⟨S128x256, .f32⟩
  | 27 => ⟨S256x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S50000x128, .f32⟩
  | 35 => ⟨S1x128, .f32⟩
  | 36 => ⟨S128, .f32⟩
  | 37 => ⟨S50000, .f32⟩
  | 38 => ⟨S50000x1, .i32⟩
  | 39 => ⟨S64, .i32⟩
  | 40 => ⟨S1x64, .i32⟩
  | 41 => ⟨S50000x64, .i32⟩
  | 42 => ⟨S50000x64, .i32⟩
  | 43 => ⟨S50000x64, .i1⟩
  | 44 => ⟨S50000x1, .f32⟩
  | 45 => ⟨S_, .f32⟩
  | 46 => ⟨S_, .f32⟩
  | 47 => ⟨S50000x64, .f32⟩
  | 48 => ⟨S50000x64, .f32⟩
  | 49 => ⟨S50000x64, .f32⟩
  | 50 => ⟨S_, .f32⟩
  | 51 => ⟨S64, .f32⟩
  | 52 => ⟨S64, .f32⟩
  | 53 => ⟨S_, .f32⟩
  | 54 => ⟨S64, .f32⟩
  | 55 => ⟨S64, .i1⟩
  | 56 => ⟨S_, .f32⟩
  | 57 => ⟨S_, .f32⟩
  | 58 => ⟨S64, .f32⟩
  | 59 => ⟨S64, .f32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S50000, .f32⟩
  | 69 => ⟨S50000, .f32⟩
  | 70 => ⟨S50000, .f32⟩
  | 71 => ⟨S_, .f32⟩
  | 72 => ⟨S64, .f32⟩
  | 73 => ⟨S50000x1, .i32⟩
  | 74 => ⟨S64, .f32⟩
  | 75 => ⟨S_, .i32⟩
  | 76 => ⟨S50000, .i32⟩
  | 77 => ⟨S50000, .i1⟩
  | 78 => ⟨S_, .i32⟩
  | 79 => ⟨S50000, .i32⟩
  | 80 => ⟨S50000, .i32⟩
  | 81 => ⟨S50000, .i32⟩
  | 82 => ⟨S50000x1, .i32⟩
  | 83 => ⟨S50000, .f32⟩
  | 84 => ⟨S50000, .f32⟩
  | 85 => ⟨S50000, .f32⟩
  | 86 => ⟨S_, .f32⟩
  | 87 => ⟨S50000, .f32⟩
  | 88 => ⟨S50000, .f32⟩
  | 89 => ⟨S50000, .f32⟩
  | 90 => ⟨S50000, .f32⟩
  | 91 => ⟨S50000x1, .f32⟩
  | 92 => ⟨S50000x256, .f32⟩
  | 93 => ⟨S50000x256, .f32⟩
  | 94 => ⟨S_, .f32⟩
  | 95 => ⟨S64x256, .f32⟩
  | 96 => ⟨S50000x1, .i32⟩
  | 97 => ⟨S64x256, .f32⟩
  | 98 => ⟨S1x128x256, .f32⟩
  | 99 => ⟨S128x256, .f32⟩
  | 100 => ⟨S256x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S50000x128, .f32⟩
  | 108 => ⟨S1x128, .f32⟩
  | 109 => ⟨S128, .f32⟩
  | 110 => ⟨S50000, .f32⟩
  | 111 => ⟨S50000x1, .i32⟩
  | 112 => ⟨S64, .i32⟩
  | 113 => ⟨S1x64, .i32⟩
  | 114 => ⟨S50000x64, .i32⟩
  | 115 => ⟨S50000x64, .i32⟩
  | 116 => ⟨S50000x64, .i1⟩
  | 117 => ⟨S50000x1, .f32⟩
  | 118 => ⟨S_, .f32⟩
  | 119 => ⟨S_, .f32⟩
  | 120 => ⟨S50000x64, .f32⟩
  | 121 => ⟨S50000x64, .f32⟩
  | 122 => ⟨S50000x64, .f32⟩
  | 123 => ⟨S_, .f32⟩
  | 124 => ⟨S64, .f32⟩
  | 125 => ⟨S64, .f32⟩
  | 126 => ⟨S_, .f32⟩
  | 127 => ⟨S64, .f32⟩
  | _ => ⟨S50000x256, .f32⟩

abbrev hbmTy0_2 (i : Nat) : BufTy := match i % 128 with
  | 0 => ⟨S64, .i1⟩
  | 1 => ⟨S_, .f32⟩
  | 2 => ⟨S_, .f32⟩
  | 3 => ⟨S64, .f32⟩
  | 4 => ⟨S64, .f32⟩
  | 5 => ⟨S_, .i32⟩
  | 6 => ⟨S50000, .i32⟩
  | 7 => ⟨S50000, .i1⟩
  | 8 => ⟨S_, .i32⟩
  | 9 => ⟨S50000, .i32⟩
  | 10 => ⟨S50000, .i32⟩
  | 11 => ⟨S50000, .i32⟩
  | 12 => ⟨S50000x1, .i32⟩
  | 13 => ⟨S50000, .f32⟩
  | 14 => ⟨S50000, .f32⟩
  | 15 => ⟨S50000, .f32⟩
  | 16 => ⟨S_, .f32⟩
  | 17 => ⟨S64, .f32⟩
  | 18 => ⟨S50000x1, .i32⟩
  | 19 => ⟨S64, .f32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S50000, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000, .f32⟩
  | 35 => ⟨S50000, .f32⟩
  | 36 => ⟨S50000x1, .f32⟩
  | 37 => ⟨S50000x256, .f32⟩
  | 38 => ⟨S50000x256, .f32⟩
  | 39 => ⟨S_, .f32⟩
  | 40 => ⟨S64x256, .f32⟩
  | 41 => ⟨S50000x1, .i32⟩
  | 42 => ⟨S64x256, .f32⟩
  | 43 => ⟨S64x1024, .f32⟩
  | 44 => ⟨S1024x256, .f32⟩
  | 45 => ⟨S64x256, .f32⟩
  | 46 => ⟨S1x256, .f32⟩
  | 47 => ⟨S64x256, .f32⟩
  | 48 => ⟨S64x256, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_v25 : Ref sig .tc := ⟨.hbm, 41, rfl⟩
abbrev main_c : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_9 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v77 : Ref sig .tc := ⟨.hbm, 104, rfl⟩
abbrev main_cst_10 : Ref sig .tc := ⟨.hbm, 105, rfl⟩
abbrev main_v78 : Ref sig .tc := ⟨.hbm, 106, rfl⟩
abbrev main_v79 : Ref sig .tc := ⟨.hbm, 107, rfl⟩
abbrev main_cst_11 : Ref sig .tc := ⟨.hbm, 108, rfl⟩
abbrev main_v80 : Ref sig .tc := ⟨.hbm, 109, rfl⟩
abbrev main_v81 : Ref sig .tc := ⟨.hbm, 110, rfl⟩
abbrev main_cst_12 : Ref sig .tc := ⟨.hbm, 111, rfl⟩
abbrev main_call3_v0 : Ref sig .tc := ⟨.hbm, 112, rfl⟩
abbrev main_call3_v1 : Ref sig .tc := ⟨.hbm, 113, rfl⟩
abbrev main_v82 : Ref sig .tc := ⟨.hbm, 114, rfl⟩
abbrev main_c_13 : Ref sig .tc := ⟨.hbm, 115, rfl⟩
abbrev main_v83 : Ref sig .tc := ⟨.hbm, 116, rfl⟩
abbrev main_v84 : Ref sig .tc := ⟨.hbm, 117, rfl⟩
abbrev main_c_14 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_15 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_16 : Ref sig .tc := ⟨.hbm, 130, rfl⟩
abbrev main_v95 : Ref sig .tc := ⟨.hbm, 131, rfl⟩
abbrev main_v96 : Ref sig .tc := ⟨.hbm, 132, rfl⟩
abbrev main_c_17 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_18 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_19 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_20 : Ref sig .tc := ⟨.hbm, 173, rfl⟩
abbrev main_call4_v0 : Ref sig .tc := ⟨.hbm, 174, rfl⟩
abbrev main_call4_v1 : Ref sig .tc := ⟨.hbm, 175, rfl⟩
abbrev main_call4_v2 : Ref sig .tc := ⟨.hbm, 176, rfl⟩
abbrev main_v134 : Ref sig .tc := ⟨.hbm, 177, rfl⟩
abbrev main_cst_21 : Ref sig .tc := ⟨.hbm, 178, rfl⟩
abbrev main_v135 : Ref sig .tc := ⟨.hbm, 179, rfl⟩
abbrev main_v136 : Ref sig .tc := ⟨.hbm, 180, rfl⟩
abbrev main_cst_22 : Ref sig .tc := ⟨.hbm, 181, rfl⟩
abbrev main_v137 : Ref sig .tc := ⟨.hbm, 182, rfl⟩
abbrev main_v138 : Ref sig .tc := ⟨.hbm, 183, rfl⟩
abbrev main_cst_23 : Ref sig .tc := ⟨.hbm, 184, rfl⟩
abbrev main_call5_v0 : Ref sig .tc := ⟨.hbm, 185, rfl⟩
abbrev main_call5_v1 : Ref sig .tc := ⟨.hbm, 186, rfl⟩
abbrev main_v139 : Ref sig .tc := ⟨.hbm, 187, rfl⟩
abbrev main_c_24 : Ref sig .tc := ⟨.hbm, 188, rfl⟩
abbrev main_v140 : Ref sig .tc := ⟨.hbm, 189, rfl⟩
abbrev main_v141 : Ref sig .tc := ⟨.hbm, 190, rfl⟩
abbrev main_c_25 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_26 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_c_27 : Ref sig .tc := ⟨.hbm, 203, rfl⟩
abbrev main_v152 : Ref sig .tc := ⟨.hbm, 204, rfl⟩
abbrev main_v153 : Ref sig .tc := ⟨.hbm, 205, rfl⟩
abbrev main_c_28 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_29 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_cst_30 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_cst_31 : Ref sig .tc := ⟨.hbm, 246, rfl⟩
abbrev main_call6_v0 : Ref sig .tc := ⟨.hbm, 247, rfl⟩
abbrev main_call6_v1 : Ref sig .tc := ⟨.hbm, 248, rfl⟩
abbrev main_call6_v2 : Ref sig .tc := ⟨.hbm, 249, rfl⟩
abbrev main_v191 : Ref sig .tc := ⟨.hbm, 250, rfl⟩
abbrev main_cst_32 : Ref sig .tc := ⟨.hbm, 251, rfl⟩
abbrev main_v192 : Ref sig .tc := ⟨.hbm, 252, rfl⟩
abbrev main_v193 : Ref sig .tc := ⟨.hbm, 253, rfl⟩
abbrev main_cst_33 : Ref sig .tc := ⟨.hbm, 254, rfl⟩
abbrev main_v194 : Ref sig .tc := ⟨.hbm, 255, rfl⟩
abbrev main_v195 : Ref sig .tc := ⟨.hbm, 256, rfl⟩
abbrev main_cst_34 : Ref sig .tc := ⟨.hbm, 257, rfl⟩
abbrev main_call7_v0 : Ref sig .tc := ⟨.hbm, 258, rfl⟩
abbrev main_call7_v1 : Ref sig .tc := ⟨.hbm, 259, rfl⟩
abbrev main_v196 : Ref sig .tc := ⟨.hbm, 260, rfl⟩
abbrev main_c_35 : Ref sig .tc := ⟨.hbm, 261, rfl⟩
abbrev main_v197 : Ref sig .tc := ⟨.hbm, 262, rfl⟩
abbrev main_v198 : Ref sig .tc := ⟨.hbm, 263, rfl⟩
abbrev main_c_36 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_cst_37 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_c_38 : Ref sig .tc := ⟨.hbm, 276, rfl⟩
abbrev main_v209 : Ref sig .tc := ⟨.hbm, 277, rfl⟩
abbrev main_v210 : Ref sig .tc := ⟨.hbm, 278, rfl⟩
abbrev main_c_39 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_cst_40 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_cst_41 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩

abbrev nD : Nat := 1
abbrev τ : Topo := Topo.v7x

variable {F : FTy → Type} [FloatOps F]
-- ==== Proof.KCases.lean ====
/-
  What the kernel's body leaves behind at one grid point, as values: the two carried scratch arrays at the first, the middle and the last
  point, and the output block at the last one. Each is the payload of the last covering store, its loads read back.
-/
module

public import proofs.«01_k».proof.Proof.Gen.KernelIdeal.Value
public import Idealize.ShloMosaic.Lib.Tactic

@[expose] public section

noncomputable section

open Idealize.ShloMosaic Idealize.ShloMosaic.TcCoe Idealize.SL.Sem

namespace Cert.KernelIdeal.Pool

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- The weighted-sum scratch after one point, over what it held. -/
abbrev vstep (x0 : Vec F S10000x256 .f32) (x1 : Vec F S1x1x10000 .i32) (x2 : Vec F S512x256 .bf16) (x3 : Vec F S1x512 .bf16)
    (s0 : Vec F S256x256 .f32) : Vec F S256x256 .f32 := k0_pay10 (k0_pay6 x0) (k0_pay7 x0 x2 x3) k0_pay8 x1 s0

/-- The weight-sum scratch after one point, over what it held. -/
abbrev sstep (x0 : Vec F S10000x256 .f32) (x1 : Vec F S1x1x10000 .i32) (x2 : Vec F S512x256 .bf16) (x3 : Vec F S1x512 .bf16)
    (s1 : Vec F S256x1 .f32) : Vec F S256x1 .f32 := k0_pay1 (k0_pay11 (k0_pay7 x0 x2 x3) k0_pay8 x1 s1)

/-- The epilogue on finished scratch arrays: per head a block of 64 rows of each, divided, times a block of the projection's columns, and
    the bias row. -/
abbrev epilogue (vs : Vec F S256x256 .f32) (ss : Vec F S256x1 .f32) (x4 : Vec F S256x1024 .f32) (x5 : Vec F S1x256 .f32) : Vec F S64x256 .f32 :=
  k0_pay2
    (k0_pay3
      (View.ld vs (Rect.unit ![0, 0] S64x256.size inb_S256x256_S64x256_0_0)) (View.ld ss (Rect.unit ![0, 0] S64x1.size inb_S256x1_S64x1_0_0))
      (View.ld x4 (Rect.unit ![0, 0] S256x256.size inb_S256x1024_S256x256_0_0))
      (View.ld vs (Rect.unit ![64, 0] S64x256.size inb_S256x256_S64x256_64_0)) (View.ld ss (Rect.unit ![64, 0] S64x1.size inb_S256x1_S64x1_64_0))
      (View.ld x4 (Rect.unit ![0, 256] S256x256.size inb_S256x1024_S256x256_0_256))
      (View.ld vs (Rect.unit ![128, 0] S64x256.size inb_S256x256_S64x256_128_0)) (View.ld ss (Rect.unit ![128, 0] S64x1.size inb_S256x1_S64x1_128_0))
      (View.ld x4 (Rect.unit ![0, 512] S256x256.size inb_S256x1024_S256x256_0_512)))
    (View.ld vs (Rect.unit ![192, 0] S64x256.size inb_S256x256_S64x256_192_0)) (View.ld ss (Rect.unit ![192, 0] S64x1.size inb_S256x1_S64x1_192_0))
    (Scalar.ofBits .f32 0x24E69595#32) (View.ld x4 (Rect.unit ![0, 768] S256x256.size inb_S256x1024_S256x256_0_768)) x5

variable (c : Dev nD) (i : grid0.Coords)
  (a1 : Memref sig .tc .vmem S10000x256 .f32) (h1 : a1.IsWhole) (a2 : Memref sig .tc .vmem S1x1x10000 .i32) (h2 : a2.IsWhole)
  (a3 : Memref sig .tc .vmem S512x256 .bf16) (h3 : a3.IsWhole) (a4 : Memref sig .tc .vmem S1x512 .bf16) (h4 : a4.IsWhole)
  (a5 : Memref sig .tc .vmem S256x1024 .f32) (h5 : a5.IsWhole) (a6 : Memref sig .tc .vmem S1x256 .f32) (h6 : a6.IsWhole)
  (a7 : Memref sig .tc .vmem S64x256 .f32) (h7 : a7.IsWhole) (a8 : Memref sig .tc .vmem S256x256 .f32) (h8 : a8.IsWhole)
  (a9 : Memref sig .tc .vmem S256x1 .f32) (h9 : a9.IsWhole)
  (x0 : Vec F S10000x256 .f32) (x1 : Vec F S1x1x10000 .i32) (x2 : Vec F S512x256 .bf16) (x3 : Vec F S1x512 .bf16)
  (x4 : Vec F S256x1024 .f32) (x5 : Vec F S1x256 .f32) (s0 : Vec F S256x256 .f32) (s1 : Vec F S256x1 .f32)

/-- The weighted-sum scratch at the first point, over the zero block. -/
theorem sout0_A_0_eq (hc0 : cond0_0 i) (hc1 : ¬cond0_1 i) :
    sout0_A_0 c i a1 h1 a2 h2 a3 h3 a4 h4 a5 h5 a6 h6 a7 h7 a8 h8 a9 h9 hc0 hc1 x0 x1 x2 x3 x4 x5 = vstep x0 x1 x2 x3 k0_pay4 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S256x256) off2]
  simp only [View.readCov_unit_zero (S := S256x256) _ off2]
  simp only [View.readAt_eq_ld, h1.read_unread, h2.read_unread, h3.read_unread, h4.read_unread, h8.read_unread, h9.read_unread, View.ld_unit_zero (S := S10000x256) off2, View.ld_unit_zero (S := S1x1x10000) off3, View.ld_unit_zero (S := S512x256) off2, View.ld_unit_zero (S := S1x512) off2, View.ld_unit_zero (S := S256x256) off2, View.ld_unit_zero (S := S256x1) off2]

/-- The weight-sum scratch at the first point, over the zero block. -/
theorem sout0_A_1_eq (hc0 : cond0_0 i) (hc1 : ¬cond0_1 i) :
    sout0_A_1 c i a1 h1 a2 h2 a3 h3 a4 h4 a5 h5 a6 h6 a7 h7 a8 h8 a9 h9 hc0 hc1 x0 x1 x2 x3 x4 x5 = sstep x0 x1 x2 x3 k0_pay5 := by
  unfold sout0_A_1
  rw [View.read_writes_eq_canon _ _ _ (scover0_A_1 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S256x1) off2]
  simp only [View.readCov_unit_zero (S := S256x1) _ off2]
  simp only [View.readAt_eq_ld, h1.read_unread, h2.read_unread, h3.read_unread, h4.read_unread, h8.read_unread, h9.read_unread, View.ld_unit_zero (S := S10000x256) off2, View.ld_unit_zero (S := S1x1x10000) off3, View.ld_unit_zero (S := S512x256) off2, View.ld_unit_zero (S := S1x512) off2, View.ld_unit_zero (S := S256x256) off2, View.ld_unit_zero (S := S256x1) off2]

/-- The weighted-sum scratch at a middle point. -/
theorem sout0_B_0_eq (hc0 : ¬cond0_0 i) (hc1 : ¬cond0_1 i) :
    sout0_B_0 c i a1 h1 a2 h2 a3 h3 a4 h4 a5 h5 a6 h6 a7 h7 a8 h8 a9 h9 hc0 hc1 x0 x1 x2 x3 x4 x5 s0 s1 = vstep x0 x1 x2 x3 s0 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 x5 s0 s1)]
  unfold kernelRun0_B
  dsimp only
  sl_unfold_words
  rw [View.canon_unit_zero (S := S256x256) off2]
  simp only [View.readAt_eq_ld, h1.read_unread, h2.read_unread, h3.read_unread, h4.read_unread, h8.read_unread, h9.read_unread, View.ld_unit_zero (S := S10000x256) off2, View.ld_unit_zero (S := S1x1x10000) off3, View.ld_unit_zero (S := S512x256) off2, View.ld_unit_zero (S := S1x512) off2, View.ld_unit_zero (S := S256x256) off2, View.ld_unit_zero (S := S256x1) off2]

/-- The weight-sum scratch at a middle point. -/
theorem sout0_B_1_eq (hc0 : ¬cond0_0 i) (hc1 : ¬cond0_1 i) :
    sout0_B_1 c i a1 h1 a2 h2 a3 h3 a4 h4 a5 h5 a6 h6 a7 h7 a8 h8 a9 h9 hc0 hc1 x0 x1 x2 x3 x4 x5 s0 s1 = sstep x0 x1 x2 x3 s1 := by
  unfold sout0_B_1
  rw [View.read_writes_eq_canon _ _ _ (scover0_B_1 c i a1 h1 a2 h2 a3 h3 a4 h4 a5 h5 a6 h6 a7 h7 a8 h8 a9 h9 hc0 hc1 x0 x1 x2 x3 x4 x5 s0 s1)]
  unfold kernelRun0_B
  dsimp only
  sl_unfold_words
  rw [View.canon_unit_zero (S := S256x1) off2]
  simp only [View.readAt_eq_ld, h1.read_unread, h2.read_unread, h3.read_unread, h4.read_unread, h8.read_unread, h9.read_unread, View.ld_unit_zero (S := S10000x256) off2, View.ld_unit_zero (S := S1x1x10000) off3, View.ld_unit_zero (S := S512x256) off2, View.ld_unit_zero (S := S1x512) off2, View.ld_unit_zero (S := S256x256) off2, View.ld_unit_zero (S := S256x1) off2]

/-- The weighted-sum scratch at the last point. -/
theorem sout0_C_0_eq (hc0 : ¬cond0_0 i) (hc1 : cond0_1 i) :
    sout0_C_0 c i a1 h1 a2 h2 a3 h3 a4 h4 a5 h5 a6 h6 a7 h7 a8 h8 a9 h9 hc0 hc1 x0 x1 x2 x3 x4 x5 s0 s1 = vstep x0 x1 x2 x3 s0 := by
  unfold sout0_C_0
  rw [View.read_writes_eq_canon _ _ _ (scover0_C_0 c i a1 h1 a2 h2 a3 h3 a4 h4 a5 h5 a6 h6 a7 h7 a8 h8 a9 h9 hc0 hc1 x0 x1 x2 x3 x4 x5 s0 s1)]
  unfold kernelRun0_C
  dsimp only
  sl_unfold_words
  rw [View.canon_unit_zero (S := S256x256) off2]
  simp only [View.readAt_eq_ld, h1.read_unread, h2.read_unread, h3.read_unread, h4.read_unread, h8.read_unread, h9.read_unread, View.ld_unit_zero (S := S10000x256) off2, View.ld_unit_zero (S := S1x1x10000) off3, View.ld_unit_zero (S := S512x256) off2, View.ld_unit_zero (S := S1x512) off2, View.ld_unit_zero (S := S256x256) off2, View.ld_unit_zero (S := S256x1) off2]

/-- The weight-sum scratch at the last point. -/
theorem sout0_C_1_eq (hc0 : ¬cond0_0 i) (hc1 : cond0_1 i) :
    sout0_C_1 c i a1 h1 a2 h2 a3 h3 a4 h4 a5 h5 a6 h6 a7 h7 a8 h8 a9 h9 hc0 hc1 x0 x1 x2 x3 x4 x5 s0 s1 = sstep x0 x1 x2 x3 s1 := by
  unfold sout0_C_1
  rw [View.read_writes_eq_canon _ _ _ (scover0_C_1 c i a1 h1 a2 h2 a3 h3 a4 h4 a5 h5 a6 h6 a7 h7 a8 h8 a9 h9 hc0 hc1 x0 x1 x2 x3 x4 x5 s0 s1)]
  unfold kernelRun0_C
  dsimp only
  sl_unfold_words
  rw [View.canon_unit_zero (S := S256x1) off2]
  simp only [View.readAt_eq_ld, h1.read_unread, h2.read_unread, h3.read_unread, h4.read_unread, h8.read_unread, h9.read_unread, View.ld_unit_zero (S := S10000x256) off2, View.ld_unit_zero (S := S1x1x10000) off3, View.ld_unit_zero (S := S512x256) off2, View.ld_unit_zero (S := S1x512) off2, View.ld_unit_zero (S := S256x256) off2, View.ld_unit_zero (S := S256x1) off2]

/-- The output block at the last point: the epilogue on the scratch arrays the point itself has just finished. -/
theorem out0_C_6_eq (hc0 : ¬cond0_0 i) (hc1 : cond0_1 i) :
    out0_C_6 c i a1 h1 a2 h2 a3 h3 a4 h4 a5 h5 a6 h6 a7 h7 a8 h8 a9 h9 hc0 hc1 x0 x1 x2 x3 x4 x5 s0 s1 = epilogue (vstep x0 x1 x2 x3 s0) (sstep x0 x1 x2 x3 s1) x4 x5 := by
  unfold out0_C_6
  rw [View.read_writes_eq_canon _ _ _ (cover0_C_6 c i a1 h1 a2 h2 a3 h3 a4 h4 a5 h5 a6 h6 a7 h7 a8 h8 a9 h9 hc0 hc1 x0 x1 x2 x3 x4 x5 s0 s1)]
  unfold kernelRun0_C
  dsimp only
  sl_unfold_words
  rw [View.canon_unit_zero (S := S64x256) off2]
  simp only [View.readCov_eq_canon', View.canon_unit_zero (S := S256x256) off2, View.canon_unit_zero (S := S256x1) off2]
  simp only [View.readAt_eq_ld, h1.read_unread, h2.read_unread, h3.read_unread, h4.read_unread, h5.read_unread, h6.read_unread, h8.read_unread, h9.read_unread, View.ld_unit_zero (S := S10000x256) off2, View.ld_unit_zero (S := S1x1x10000) off3, View.ld_unit_zero (S := S512x256) off2, View.ld_unit_zero (S := S1x512) off2, View.ld_unit_zero (S := S256x256) off2, View.ld_unit_zero (S := S256x1) off2, View.ld_unit_zero (S := S1x256) off2]

end Cert.KernelIdeal.Pool

end
-- ==== Proof.Spec.lean ====
/-
  The pooled sums both programs are compared through, over the extended reals: a row's score under a head, its weight for a segment, and
  the output as per-head quotients projected and added.
-/
module

public import Idealize.ShloMosaic.PureOps.Ideal
public import Idealize.ShloMosaic.Lib.Pointwise

@[expose] public section

noncomputable section

open Idealize.ShloMosaic

namespace Cert.Pool

/-- The score of row `n` under head `h`: `∑ k, tanh (x[n] · w[h, k]) u[h, k]`. -/
def score (x : Fin 50000 → Fin 256 → EReal) (w : Fin 4 → Fin 128 → Fin 256 → EReal) (u : Fin 4 → Fin 128 → EReal) (h : Fin 4)
    (n : Fin 50000) : EReal :=
  ∑ k : Fin 128, Ideal.tanh (∑ d : Fin 256, x n d * w h k d) * u h k

/-- The weight of row `n` for segment `b`: the exponential of its score if the row is in the segment, else zero. -/
def weight (s : Fin 50000 → EReal) (seg : Fin 50000 → BitVec 32) (b : Fin 64) (n : Fin 50000) : EReal :=
  if seg n = BitVec.ofNat 32 b.val then Ideal.exp (s n) else 0

/-- The literal guarding the division. -/
def guard : EReal := Ideal.ofBits .f32 0x24E69595#32

/-- One head's pooled feature: the weighted sum of the segment's rows over the guarded sum of its weights. -/
def pooled (x : Fin 50000 → Fin 256 → EReal) (s : Fin 50000 → EReal) (seg : Fin 50000 → BitVec 32) (b : Fin 64) (d : Fin 256) : EReal :=
  Ideal.div (∑ n : Fin 50000, weight s seg b n * x n d) ((∑ n : Fin 50000, weight s seg b n) + guard)

/-- The output: the four heads' pooled features against the projection, and the bias. -/
def out (x : Fin 50000 → Fin 256 → EReal) (seg : Fin 50000 → BitVec 32) (w : Fin 4 → Fin 128 → Fin 256 → EReal)
    (u : Fin 4 → Fin 128 → EReal) (p : Fin 256 → Fin 1024 → EReal) (bias : Fin 256 → EReal) (b : Fin 64) (j : Fin 256) : EReal :=
  (∑ h : Fin 4, ∑ d : Fin 256, pooled x (score x w u h) seg b d * p j ⟨256 * h.val + d.val, by omega⟩) + bias j

/-- Five blocks of 10000 rows are the 50000 rows. -/
theorem sum_blocks (f : Fin 50000 → EReal) :
    (∑ t : Fin 5, ∑ i : Fin 10000, f ⟨10000 * t.val + i.val, by omega⟩) = ∑ n : Fin 50000, f n := by
  rw [← (finProdFinEquiv (m := 5) (n := 10000)).sum_comp, Fintype.sum_prod_type]
  refine Finset.sum_congr rfl fun t _ => Finset.sum_congr rfl fun i _ => congrArg f (Fin.ext ?_)
  show 10000 * t.val + i.val = i.val + 10000 * t.val
  omega

/-- Four groups of 256 columns are the 1024 columns. -/
theorem sum_heads (f : Fin 1024 → EReal) :
    (∑ h : Fin 4, ∑ d : Fin 256, f ⟨256 * h.val + d.val, by omega⟩) = ∑ e : Fin 1024, f e := by
  rw [← (finProdFinEquiv (m := 4) (n := 256)).sum_comp, Fintype.sum_prod_type]
  refine Finset.sum_congr rfl fun t _ => Finset.sum_congr rfl fun i _ => congrArg f (Fin.ext ?_)
  show 256 * t.val + i.val = i.val + 256 * t.val
  omega

end Cert.Pool

end
-- ==== Proof.Payload.lean ====
/-
  The kernel body's arithmetic at one index, over the extended reals: a row's score under a head, the masked weight of a row for a segment,
  and what one point adds to the two carried scratch arrays.
-/
module

public import proofs.«01_k».proof.Proof.KCases
public import proofs.«01_k».proof.Proof.Spec
public import Idealize.ShloMosaic.Lib.Pointwise

@[expose] public section

noncomputable section

open Idealize.ShloMosaic Idealize.ShloMosaic.TcCoe Idealize.SL.Sem

namespace Cert.KernelIdeal.Pool

open Cert.KernelIdeal Cert.KernelIdeal.Gen

/-- A sum over 512 places against a selector of the group of 128 at `h` keeps that group. -/
theorem sum_select (f : Fin 512 → EReal) (h : Fin 4) :
    (∑ q : Fin 512, f q * (if q.val / 128 = h.val then 1 else 0)) = ∑ k : Fin 128, f ⟨128 * h.val + k.val, by omega⟩ := by
  rw [← (finProdFinEquiv (m := 4) (n := 128)).sum_comp, Fintype.sum_prod_type, Finset.sum_eq_single h]
  · refine Finset.sum_congr rfl fun k _ => ?_
    have e : (finProdFinEquiv (m := 4) (n := 128) (h, k)).val = 128 * h.val + k.val := by
      simp [finProdFinEquiv]; omega
    rw [if_pos (by rw [e]; omega), mul_one]
    exact congrArg f (Fin.ext e)
  · intro b _ hb
    refine Finset.sum_eq_zero fun k _ => ?_
    have e : (finProdFinEquiv (m := 4) (n := 128) (b, k)).val = 128 * b.val + k.val := by
      simp [finProdFinEquiv]; omega
    rw [if_neg (by rw [e]; intro h'; exact hb (Fin.ext (by omega))), mul_zero]
  · intro h'; exact absurd (Finset.mem_univ _) h'

/-- The activations times the context vector, at a row and a (head, unit) pair. -/
theorem pay7_at (x0 : Vec Ideal S10000x256 .f32) (x2 : Vec Ideal S512x256 .bf16) (x3 : Vec Ideal S1x512 .bf16) (i : Fin 10000)
    (q : Fin 512) :
    k0_pay7 x0 x2 x3 (ix2 i q) = Ideal.tanh (∑ d : Fin 256, x0 (ix2 i d) * x2 (ix2 q d)) * x3 (ix2 0 q) := by
  pointwise [k0_pay7, k0_pay6]

set_option maxRecDepth 4000 in
/-- The selector: one where the column is the row's group of 128. -/
theorem pay8_at (q : Fin 512) (h : Fin 4) :
    k0_pay8 (ix2 q ⟨h.val, by omega⟩) = if q.val / 128 = h.val then 1#32 else 0#32 := by
  pointwise [k0_pay8]
  revert q h
  decide

/-- A row's score under a head, from the blocks a point reads. -/
def bscore (x0 : Vec Ideal S10000x256 .f32) (x2 : Vec Ideal S512x256 .bf16) (x3 : Vec Ideal S1x512 .bf16) (h : Fin 4) (i : Fin 10000) :
    EReal :=
  ∑ k : Fin 128, Ideal.tanh (∑ d : Fin 256, x0 (ix2 i d) * x2 (ix2 ⟨128 * h.val + k.val, by omega⟩ d))
    * x3 (ix2 0 ⟨128 * h.val + k.val, by omega⟩)

/-- The matrix product with the selector is the score. -/
theorem score_at (x0 : Vec Ideal S10000x256 .f32) (x2 : Vec Ideal S512x256 .bf16) (x3 : Vec Ideal S1x512 .bf16) (h : Fin 4) (i : Fin 10000) :
    (∑ q : Fin 512, k0_pay7 x0 x2 x3 (ix2 i q) * FloatOps.sitofp (F := Ideal) .f32 (k0_pay8 (ix2 q ⟨h.val, by omega⟩)))
      = bscore x0 x2 x3 h i := by
  unfold bscore
  rw [← sum_select (fun q => Ideal.tanh (∑ d : Fin 256, x0 (ix2 i d) * x2 (ix2 q d)) * x3 (ix2 0 q)) h]
  refine Finset.sum_congr rfl fun q _ => ?_
  rw [pay7_at, pay8_at]
  congr 1
  by_cases hq : q.val / 128 = h.val
  · rw [if_pos hq, if_pos hq]; show (((1#32 : BitVec 32).toInt : ℝ) : EReal) = 1; simp
  · rw [if_neg hq, if_neg hq]; show (((0#32 : BitVec 32).toInt : ℝ) : EReal) = 0; simp

/-- The weight of a row for segment `b` under head `h`: the exponential of its score if the row is in the segment. -/
def bweight (x0 : Vec Ideal S10000x256 .f32) (x1 : Vec Ideal S1x1x10000 .i32) (x2 : Vec Ideal S512x256 .bf16) (x3 : Vec Ideal S1x512 .bf16)
    (h : Fin 4) (b : Fin 64) (i : Fin 10000) : EReal :=
  if x1 (ix3 0 0 i) = BitVec.ofNat 32 b.val then Ideal.exp (bscore x0 x2 x3 h i) else 0

theorem select_eq {α : Type} (a b : BitVec 32) (x y : α) : Scalar.select (IntOp.cmpi .eq a b) x y = if a = b then x else y := by
  by_cases hab : a = b
  · subst hab; simp [Scalar.select, IntOp.cmpi]
  · rw [if_neg hab]; simp [Scalar.select, IntOp.cmpi, beq_eq_false_iff_ne.mpr hab]

/-- The masked weights of all heads and segments, stacked: row `64 h + b`. -/
theorem pay9_at (x0 : Vec Ideal S10000x256 .f32) (x1 : Vec Ideal S1x1x10000 .i32) (x2 : Vec Ideal S512x256 .bf16)
    (x3 : Vec Ideal S1x512 .bf16) (h : Fin 4) (b : Fin 64) (i : Fin 10000) :
    k0_pay9 (k0_pay7 x0 x2 x3) k0_pay8 x1 (ix2 ⟨64 * h.val + b.val, by omega⟩ i) = bweight x0 x1 x2 x3 h b i := by
  unfold bweight
  rw [← score_at, ← select_eq]
  generalize k0_pay7 x0 x2 x3 = v13
  generalize k0_pay8 = v41
  unfold k0_pay9
  match h with
  | 0 => pointwise
  | 1 => pointwise
  | 2 =>
    pointwise
    rw [dif_neg (by omega), dif_neg (by omega), dif_pos (by omega), show 128 + b.val - 64 - 64 = b.val by omega]
  | 3 =>
    pointwise
    rw [dif_neg (by omega), dif_neg (by omega), dif_neg (by omega), show 192 + b.val - 64 - 64 - 64 = b.val by omega]

/-- One point's addition to the weighted sums. -/
theorem vstep_at (x0 : Vec Ideal S10000x256 .f32) (x1 : Vec Ideal S1x1x10000 .i32) (x2 : Vec Ideal S512x256 .bf16)
    (x3 : Vec Ideal S1x512 .bf16) (s : Vec Ideal S256x256 .f32) (h : Fin 4) (b : Fin 64) (d : Fin 256) :
    vstep x0 x1 x2 x3 s (ix2 ⟨64 * h.val + b.val, by omega⟩ d)
      = s (ix2 ⟨64 * h.val + b.val, by omega⟩ d) + ∑ i : Fin 10000, bweight x0 x1 x2 x3 h b i * x0 (ix2 i d) := by
  simp only [← pay9_at]
  pointwise [k0_pay10, k0_pay6]

/-- One point's addition to the sums of weights. -/
theorem sstep_at (x0 : Vec Ideal S10000x256 .f32) (x1 : Vec Ideal S1x1x10000 .i32) (x2 : Vec Ideal S512x256 .bf16)
    (x3 : Vec Ideal S1x512 .bf16) (s : Vec Ideal S256x1 .f32) (h : Fin 4) (b : Fin 64) :
    sstep x0 x1 x2 x3 s (ix2 ⟨64 * h.val + b.val, by omega⟩ 0)
      = s (ix2 ⟨64 * h.val + b.val, by omega⟩ 0) + ∑ i : Fin 10000, bweight x0 x1 x2 x3 h b i := by
  simp only [← pay9_at]
  pointwise [k0_pay1, k0_pay11]

/-- The sums start from zero. -/
theorem pay4_at (r d : Fin 256) : (k0_pay4 : FVec Ideal S256x256 .f32) (ix2 r d) = 0 := by pointwise [k0_pay4]
theorem pay5_at (r : Fin 256) : (k0_pay5 : FVec Ideal S256x1 .f32) (ix2 r 0) = 0 := by pointwise [k0_pay5]

/-- The epilogue at an element: per head the divided row of 256 against the projection's row, the four added, and the bias. -/
theorem epilogue_at (vs : Vec Ideal S256x256 .f32) (ss : Vec Ideal S256x1 .f32) (x4 : Vec Ideal S256x1024 .f32) (x5 : Vec Ideal S1x256 .f32)
    (b : Fin 64) (j : Fin 256) :
    epilogue vs ss x4 x5 (ix2 b j)
      = (∑ h : Fin 4, ∑ d : Fin 256, Ideal.div (vs (ix2 ⟨64 * h.val + b.val, by omega⟩ d)) (ss (ix2 ⟨64 * h.val + b.val, by omega⟩ 0) + Cert.Pool.guard)
          * x4 (ix2 j ⟨256 * h.val + d.val, by omega⟩)) + x5 (ix2 0 j) := by
  rw [Fin.sum_univ_four]
  unfold Cert.Pool.guard
  pointwise [k0_pay2, k0_pay3]

end Cert.KernelIdeal.Pool

end
-- ==== Proof.Blocks.lean ====
/-
  What the kernel's windows read at a grid point, in the elements of the program's arguments: point `t` reads rows `10000 t` to
  `10000 t + 9999` of the features and of the segment numbers, and the whole of the weights, laid out by the host's reshapes.
-/
module

public import proofs.«01_k».proof.Proof.Gen.KernelIdeal.Value
public import Idealize.ShloMosaic.Lib.StableHlo.ReadAt
public import Idealize.ShloMosaic.Lib.Pointwise

@[expose] public section

noncomputable section

open Idealize.ShloMosaic Idealize.ShloMosaic.TcCoe Idealize.SL.Sem

namespace Cert.KernelIdeal.Pool

open Cert.KernelIdeal Cert.KernelIdeal.Gen

variable (m : (ℓ : Loc nD τ sig) → Buf (Elt Ideal) ℓ) (c : Dev nD)

theorem V_seg (t : Fin 5) (i : Fin 10000) :
    (V m c main_call0_v0 : IVec S5x1x10000 32) (ix3 t 0 i)
      = (m ((c : Thread nD τ).loc main_arg1) : IVec S50000 32) (ix1 ⟨10000 * t.val + i.val, by omega⟩) := by
  unfold V
  after_reads_at
  exact congrArg (fun r => (m ((c : Thread nD τ).loc main_arg1) : IVec S50000 32) (ix1 r)) (Fin.ext (by dsimp only; omega))

theorem V_wh (h : Fin 4) (k : Fin 128) (d : Fin 256) :
    (V m c main_call0_v2 : FVec Ideal S512x256 .bf16) (ix2 ⟨128 * h.val + k.val, by omega⟩ d)
      = (m ((c : Thread nD τ).loc main_arg2) : FVec Ideal S4x128x256 .f32) (ix3 h k d) := by
  unfold V
  after_reads_at
  have e1 : (⟨(128 * h.val + k.val) / 128, by omega⟩ : Fin 4) = h := Fin.ext (by dsimp only; omega)
  have e2 : (⟨(128 * h.val + k.val) % 128, by omega⟩ : Fin 128) = k := Fin.ext (by dsimp only; omega)
  rw [e1, e2]

theorem V_ctx (h : Fin 4) (k : Fin 128) :
    (V m c main_call0_v4 : FVec Ideal S1x512 .bf16) (ix2 0 ⟨128 * h.val + k.val, by omega⟩)
      = (m ((c : Thread nD τ).loc main_arg4) : FVec Ideal S4x128 .f32) (ix2 h k) := by
  unfold V
  after_reads_at
  have e1 : (⟨(128 * h.val + k.val) / 128, by omega⟩ : Fin 4) = h := Fin.ext (by dsimp only; omega)
  have e2 : (⟨(128 * h.val + k.val) % 128, by omega⟩ : Fin 128) = k := Fin.ext (by dsimp only; omega)
  rw [e1, e2]

theorem V_bc (j : Fin 256) :
    (V m c main_call0_v5 : FVec Ideal S1x256 .f32) (ix2 0 j)
      = (m ((c : Thread nD τ).loc main_arg6) : FVec Ideal S256 .f32) (ix1 j) := by
  unfold V
  after_reads_at

theorem idx0 (t : Fin cfg0.N) : win0_0.index t 0 = t.val ∧ win0_0.index t 1 = 0 := by
  rcases fin_N0 t with rfl | rfl | rfl | rfl | rfl <;> decide
theorem idx1 (t : Fin cfg0.N) : win0_1.index t 0 = t.val ∧ win0_1.index t 1 = 0 ∧ win0_1.index t 2 = 0 := by
  rcases fin_N0 t with rfl | rfl | rfl | rfl | rfl <;> decide
theorem idx2 (t : Fin cfg0.N) : win0_2.index t 0 = 0 ∧ win0_2.index t 1 = 0 := by
  rcases fin_N0 t with rfl | rfl | rfl | rfl | rfl <;> decide
theorem idx3 (t : Fin cfg0.N) : win0_3.index t 0 = 0 ∧ win0_3.index t 1 = 0 := by
  rcases fin_N0 t with rfl | rfl | rfl | rfl | rfl <;> decide
theorem idx4 (t : Fin cfg0.N) : win0_4.index t 0 = 0 ∧ win0_4.index t 1 = 0 := by
  rcases fin_N0 t with rfl | rfl | rfl | rfl | rfl <;> decide
theorem idx5 (t : Fin cfg0.N) : win0_5.index t 0 = 0 ∧ win0_5.index t 1 = 0 := by
  rcases fin_N0 t with rfl | rfl | rfl | rfl | rfl <;> decide

theorem lt_N0 (t : Fin cfg0.N) : t.val < 5 := Nat.lt_of_lt_of_eq t.isLt N_0

/-- Rows of the features. -/
theorem blk_x (t : Fin cfg0.N) (i : Fin 10000) (d : Fin 256) :
    (iblk m c 0 t : Vec Ideal S10000x256 .f32) (ix2 i d)
      = (m ((c : Thread nD τ).loc main_arg0) : FVec Ideal S50000x256 .f32) (ix2 ⟨10000 * t.val + i.val, by have := lt_N0 t; omega⟩ d) := by
  have hi := idx0 t
  unfold iblk
  rw [View.read_apply]
  show V m c main_arg0 _ = _
  rw [V_main_arg0]
  congr 1
  funext a
  apply Fin.ext
  match a with
  | ⟨0, _⟩ => show win0_0.index t 0 * 10000 + 1 * i.val = 10000 * t.val + i.val; rw [hi.1]; omega
  | ⟨1, _⟩ => show win0_0.index t 1 * 256 + 1 * d.val = d.val; rw [hi.2]; omega

/-- Segment numbers of those rows. -/
theorem blk_seg (t : Fin cfg0.N) (i : Fin 10000) :
    (iblk m c 1 t : Vec Ideal S1x1x10000 .i32) (ix3 0 0 i)
      = (m ((c : Thread nD τ).loc main_arg1) : IVec S50000 32) (ix1 ⟨10000 * t.val + i.val, by have := lt_N0 t; omega⟩) := by
  have hi := idx1 t
  rw [← V_seg m c ⟨t.val, lt_N0 t⟩ i]
  unfold iblk
  rw [View.read_apply]
  show V m c main_call0_v0 _ = _
  congr 1
  funext a
  apply Fin.ext
  match a with
  | ⟨0, _⟩ => show win0_1.index t 0 * 1 + 1 * 0 = t.val; rw [hi.1]; omega
  | ⟨1, _⟩ => show win0_1.index t 1 * 1 + 1 * 0 = 0; rw [hi.2.1]
  | ⟨2, _⟩ => show win0_1.index t 2 * 10000 + 1 * i.val = i.val; rw [hi.2.2]; omega

/-- The heads' weights, stacked. -/
theorem blk_wh (t : Fin cfg0.N) (h : Fin 4) (k : Fin 128) (d : Fin 256) :
    (iblk m c 2 t : Vec Ideal S512x256 .bf16) (ix2 ⟨128 * h.val + k.val, by omega⟩ d)
      = (m ((c : Thread nD τ).loc main_arg2) : FVec Ideal S4x128x256 .f32) (ix3 h k d) := by
  have hi := idx2 t
  rw [← V_wh m c h k d]
  unfold iblk
  rw [View.read_apply]
  show V m c main_call0_v2 _ = _
  congr 1
  funext a
  apply Fin.ext
  match a with
  | ⟨0, _⟩ => show win0_2.index t 0 * 512 + 1 * (128 * h.val + k.val) = 128 * h.val + k.val; rw [hi.1]; omega
  | ⟨1, _⟩ => show win0_2.index t 1 * 256 + 1 * d.val = d.val; rw [hi.2]; omega

/-- The heads' context vectors, side by side. -/
theorem blk_ctx (t : Fin cfg0.N) (h : Fin 4) (k : Fin 128) :
    (iblk m c 3 t : Vec Ideal S1x512 .bf16) (ix2 0 ⟨128 * h.val + k.val, by omega⟩)
      = (m ((c : Thread nD τ).loc main_arg4) : FVec Ideal S4x128 .f32) (ix2 h k) := by
  have hi := idx3 t
  rw [← V_ctx m c h k]
  unfold iblk
  rw [View.read_apply]
  show V m c main_call0_v4 _ = _
  congr 1
  funext a
  apply Fin.ext
  match a with
  | ⟨0, _⟩ => show win0_3.index t 0 * 1 + 1 * 0 = 0; rw [hi.1]
  | ⟨1, _⟩ => show win0_3.index t 1 * 512 + 1 * (128 * h.val + k.val) = 128 * h.val + k.val; rw [hi.2]; omega

/-- The output projection. -/
theorem blk_wc (t : Fin cfg0.N) (j : Fin 256) (e : Fin 1024) :
    (iblk m c 4 t : Vec Ideal S256x1024 .f32) (ix2 j e)
      = (m ((c : Thread nD τ).loc main_arg5) : FVec Ideal S256x1024 .f32) (ix2 j e) := by
  have hi := idx4 t
  unfold iblk
  rw [View.read_apply]
  show V m c main_arg5 _ = _
  rw [V_main_arg5]
  congr 1
  funext a
  apply Fin.ext
  match a with
  | ⟨0, _⟩ => show win0_4.index t 0 * 256 + 1 * j.val = j.val; rw [hi.1]; omega
  | ⟨1, _⟩ => show win0_4.index t 1 * 1024 + 1 * e.val = e.val; rw [hi.2]; omega

/-- The output bias. -/
theorem blk_bc (t : Fin cfg0.N) (j : Fin 256) :
    (iblk m c 5 t : Vec Ideal S1x256 .f32) (ix2 0 j)
      = (m ((c : Thread nD τ).loc main_arg6) : FVec Ideal S256 .f32) (ix1 j) := by
  have hi := idx5 t
  rw [← V_bc m c j]
  unfold iblk
  rw [View.read_apply]
  show V m c main_call0_v5 _ = _
  congr 1
  funext a
  apply Fin.ext
  match a with
  | ⟨0, _⟩ => show win0_5.index t 0 * 1 + 1 * 0 = 0; rw [hi.1]
  | ⟨1, _⟩ => show win0_5.index t 1 * 256 + 1 * j.val = j.val; rw [hi.2]; omega

end Cert.KernelIdeal.Pool

end
-- ==== Proof.KernelOut.lean ====
/-
  What the kernel's result array holds: after the last point the two carried arrays are the sums over all rows, and the output block is
  the quotients, projected, plus the bias.
-/
module

public import proofs.«01_k».proof.Proof.Payload
public import proofs.«01_k».proof.Proof.Blocks

@[expose] public section

noncomputable section

open Idealize.ShloMosaic Idealize.ShloMosaic.TcCoe Idealize.SL.Sem

namespace Cert.KernelIdeal.Pool

open Cert.KernelIdeal Cert.KernelIdeal.Gen Cert.KernelIdeal.Value Cert.Pool

section Fold

variable {F : FTy → Type} [FloatOps F] (m : (ℓ : Loc nD τ sig) → Buf (Elt F) ℓ) (c : Dev nD)

/-- One point's step on the weighted sums, from the blocks it reads. -/
abbrev vpt (t : Fin cfg0.N) (s : Vec F S256x256 .f32) : Vec F S256x256 .f32 :=
  vstep (iblk m c 0 t) (iblk m c 1 t) (iblk m c 2 t) (iblk m c 3 t) s

/-- One point's step on the sums of weights. -/
abbrev spt (t : Fin cfg0.N) (s : Vec F S256x1 .f32) : Vec F S256x1 .f32 :=
  sstep (iblk m c 0 t) (iblk m c 1 t) (iblk m c 2 t) (iblk m c 3 t) s

theorem fold_first (t : Fin cfg0.N) (h0 : t.val % 5 = 0) (h1 : ¬t.val % 5 = 4) :
    (outsAt0 m c t.val t.isLt).2 = (vpt m c t k0_pay4, spt m c t k0_pay5) := by
  rw [outsAt0_A m c t h0 h1]
  dsimp only
  rw [sout0_A_0_eq, sout0_A_1_eq]

theorem fold_mid (t : Fin cfg0.N) (h0 : ¬t.val % 5 = 0) (h1 : ¬t.val % 5 = 4) :
    (outsAt0 m c t.val t.isLt).2
      = (vpt m c t (outsAt0 m c (t.val - 1) (Nat.lt_of_le_of_lt (Nat.sub_le _ _) t.isLt)).2.1,
          spt m c t (outsAt0 m c (t.val - 1) (Nat.lt_of_le_of_lt (Nat.sub_le _ _) t.isLt)).2.2) := by
  rw [outsAt0_B m c t h0 h1]
  dsimp only
  rw [sout0_B_0_eq, sout0_B_1_eq]

theorem fold_last (t : Fin cfg0.N) (h0 : ¬t.val % 5 = 0) (h1 : t.val % 5 = 4) :
    (outsAt0 m c t.val t.isLt).1
      = epilogue (vpt m c t (outsAt0 m c (t.val - 1) (Nat.lt_of_le_of_lt (Nat.sub_le _ _) t.isLt)).2.1)
          (spt m c t (outsAt0 m c (t.val - 1) (Nat.lt_of_le_of_lt (Nat.sub_le _ _) t.isLt)).2.2) (iblk m c 4 t) (iblk m c 5 t) := by
  rw [outsAt0_C m c t h0 h1]
  dsimp only
  rw [out0_C_6_eq]

/-- Point `n` of the five. -/
def pt (n : Fin 5) : Fin cfg0.N := ⟨n.val, lt_of_lt_of_eq n.isLt N_0.symm⟩

/-- The two carried arrays after the last point's steps. -/
abbrev vlast : Vec F S256x256 .f32 := vpt m c (pt 4) (vpt m c (pt 3) (vpt m c (pt 2) (vpt m c (pt 1) (vpt m c (pt 0) k0_pay4))))
abbrev slast : Vec F S256x1 .f32 := spt m c (pt 4) (spt m c (pt 3) (spt m c (pt 2) (spt m c (pt 1) (spt m c (pt 0) k0_pay5))))

theorem result_eq : G6 m c = epilogue (vlast m c) (slast m c) (iblk m c 4 (pt 4)) (iblk m c 5 (pt 4)) := by
  rw [G6_last, ← outsAt0_sweep m c 4 (pt 4).isLt]
  refine (fold_last m c (pt 4) (by decide) (by decide)).trans ?_
  have e0 := fold_first m c (pt 0) (by decide) (by decide)
  have e1 := fold_mid m c (pt 1) (by decide) (by decide)
  have e2 := fold_mid m c (pt 2) (by decide) (by decide)
  have e3 := fold_mid m c (pt 3) (by decide) (by decide)
  have e4 : (outsAt0 m c ((pt 4).val - 1) (Nat.lt_of_le_of_lt (Nat.sub_le _ _) (pt 4).isLt)).2
      = (vpt m c (pt 3) (vpt m c (pt 2) (vpt m c (pt 1) (vpt m c (pt 0) k0_pay4))),
          spt m c (pt 3) (spt m c (pt 2) (spt m c (pt 1) (spt m c (pt 0) k0_pay5)))) := by
    refine e3.trans ?_
    rw [show outsAt0 m c ((pt 3).val - 1) (Nat.lt_of_le_of_lt (Nat.sub_le _ _) (pt 3).isLt) = outsAt0 m c (pt 2).val (pt 2).isLt from rfl, e2,
      show outsAt0 m c ((pt 2).val - 1) (Nat.lt_of_le_of_lt (Nat.sub_le _ _) (pt 2).isLt) = outsAt0 m c (pt 1).val (pt 1).isLt from rfl, e1,
      show outsAt0 m c ((pt 1).val - 1) (Nat.lt_of_le_of_lt (Nat.sub_le _ _) (pt 1).isLt) = outsAt0 m c (pt 0).val (pt 0).isLt from rfl, e0]
  rw [e4]

end Fold

variable (m : (ℓ : Loc nD τ sig) → Buf (Elt Ideal) ℓ) (c : Dev nD)

/-- The arguments, as functions of their coordinates. -/
def argX (n : Fin 50000) (d : Fin 256) : EReal := (m ((c : Thread nD τ).loc main_arg0) : FVec Ideal S50000x256 .f32) (ix2 n d)
def argSeg (n : Fin 50000) : BitVec 32 := (m ((c : Thread nD τ).loc main_arg1) : IVec S50000 32) (ix1 n)
def argW (h : Fin 4) (k : Fin 128) (d : Fin 256) : EReal := (m ((c : Thread nD τ).loc main_arg2) : FVec Ideal S4x128x256 .f32) (ix3 h k d)
def argU (h : Fin 4) (k : Fin 128) : EReal := (m ((c : Thread nD τ).loc main_arg4) : FVec Ideal S4x128 .f32) (ix2 h k)
def argP (j : Fin 256) (e : Fin 1024) : EReal := (m ((c : Thread nD τ).loc main_arg5) : FVec Ideal S256x1024 .f32) (ix2 j e)
def argB (j : Fin 256) : EReal := (m ((c : Thread nD τ).loc main_arg6) : FVec Ideal S256 .f32) (ix1 j)

theorem blk_argX (t : Fin 5) (i : Fin 10000) (d : Fin 256) :
    (iblk m c 0 (pt t) : Vec Ideal S10000x256 .f32) (ix2 i d) = argX m c ⟨10000 * t.val + i.val, by omega⟩ d := blk_x m c (pt t) i d
theorem blk_argP (t : Fin 5) (j : Fin 256) (e : Fin 1024) :
    (iblk m c 4 (pt t) : Vec Ideal S256x1024 .f32) (ix2 j e) = argP m c j e := blk_wc m c (pt t) j e
theorem blk_argB (t : Fin 5) (j : Fin 256) :
    (iblk m c 5 (pt t) : Vec Ideal S1x256 .f32) (ix2 0 j) = argB m c j := blk_bc m c (pt t) j

theorem bweight_eq (t : Fin 5) (h : Fin 4) (b : Fin 64) (i : Fin 10000) :
    bweight (iblk m c 0 (pt t)) (iblk m c 1 (pt t)) (iblk m c 2 (pt t)) (iblk m c 3 (pt t)) h b i
      = weight (score (argX m c) (argW m c) (argU m c) h) (argSeg m c) b ⟨10000 * t.val + i.val, by omega⟩ := by
  unfold bweight weight bscore score argSeg
  rw [blk_seg]
  simp only [blk_argX, blk_wh, blk_ctx]
  rfl

theorem vlast_at (h : Fin 4) (b : Fin 64) (d : Fin 256) :
    vlast m c (ix2 ⟨64 * h.val + b.val, by omega⟩ d)
      = ∑ n : Fin 50000, weight (score (argX m c) (argW m c) (argU m c) h) (argSeg m c) b n * argX m c n d := by
  rw [← sum_blocks, Fin.sum_univ_five]
  unfold vlast vpt
  rw [vstep_at, vstep_at, vstep_at, vstep_at, vstep_at, pay4_at, zero_add]
  simp only [bweight_eq, blk_argX]

theorem slast_at (h : Fin 4) (b : Fin 64) :
    slast m c (ix2 ⟨64 * h.val + b.val, by omega⟩ 0)
      = ∑ n : Fin 50000, weight (score (argX m c) (argW m c) (argU m c) h) (argSeg m c) b n := by
  rw [← sum_blocks, Fin.sum_univ_five]
  unfold slast spt
  rw [sstep_at, sstep_at, sstep_at, sstep_at, sstep_at, pay5_at, zero_add]
  simp only [bweight_eq]

/-- The result array at an element. -/
theorem result_at (b : Fin 64) (j : Fin 256) :
    (G6 m c : FVec Ideal S64x256 .f32) (ix2 b j)
      = out (argX m c) (argSeg m c) (argW m c) (argU m c) (argP m c) (argB m c) b j := by
  rw [result_eq, epilogue_at, blk_argB]
  unfold out pooled
  refine congrArg (· + argB m c j) ?_
  refine Finset.sum_congr rfl fun h _ => Finset.sum_congr rfl fun d _ => ?_
  rw [vlast_at, slast_at, blk_argP]

end Cert.KernelIdeal.Pool

end
-- ==== Proof.Algebra.lean ====
/-
  The algebra of the equation, over the extended reals: scaling every weight and the guard by one positive real changes no quotient, the
  exponential of a shifted score is a scaled exponential, and a quotient by the segment's sum may be taken before or after adding rows.
-/
module

public import proofs.«01_k».proof.Proof.Spec
public import Mathlib.Data.EReal.Inv

@[expose] public section

noncomputable section

open Idealize.ShloMosaic

namespace Cert.Pool

/-- A finite nonnegative factor moves out of a sum. -/
theorem sum_mul_of_finite {ι : Type} (A : Finset ι) (f : ι → EReal) {r : EReal} (h0 : 0 ≤ r) (ht : r ≠ ⊤) :
    (∑ n ∈ A, f n * r) = (∑ n ∈ A, f n) * r := by
  classical
  induction A using Finset.induction_on with
  | empty => simp
  | insert a A ha ih => rw [Finset.sum_insert ha, Finset.sum_insert ha, ih, EReal.right_distrib_of_nonneg_of_ne_top h0 ht]

theorem exp_nonneg (a : EReal) : 0 ≤ Ideal.exp a := by
  induction a using EReal.rec with
  | bot => exact le_refl _
  | coe r => exact EReal.coe_nonneg.mpr (Real.exp_pos r).le
  | top => exact le_top

/-- The exponential of a score shifted by a real is the exponential scaled by a positive real. -/
theorem exp_shift (a : EReal) (M : ℝ) : Ideal.exp (a - (M : EReal)) = Ideal.exp a * ((Real.exp (-M) : ℝ) : EReal) := by
  have hp : 0 < Real.exp (-M) := Real.exp_pos _
  induction a using EReal.rec with
  | bot => rw [EReal.bot_sub]; show (0 : EReal) = 0 * _; rw [zero_mul]
  | coe r =>
    rw [← EReal.coe_sub]
    show ((Real.exp (r - M) : ℝ) : EReal) = ((Real.exp r : ℝ) : EReal) * _
    rw [← EReal.coe_mul, ← Real.exp_add, sub_eq_add_neg]
  | top => rw [EReal.top_sub_coe]; show (⊤ : EReal) = ⊤ * _; rw [EReal.top_mul_coe_of_pos hp]

theorem guard_pos : 0 < guard := by
  unfold guard
  simp [Ideal.ofBits, Ideal.ieee, -EReal.coe_mul]

theorem weight_nonneg (s : Fin 50000 → EReal) (seg : Fin 50000 → BitVec 32) (b : Fin 64) (n : Fin 50000) : 0 ≤ weight s seg b n := by
  unfold weight
  split
  · exact exp_nonneg _
  · exact le_refl _

/-- The pooled feature with every score of the segment shifted by a real `M`, the guard scaled to match, and each row divided before it is
    added, is the pooled feature. -/
theorem pooled_shift (x : Fin 50000 → Fin 256 → EReal) (s : Fin 50000 → EReal) (seg : Fin 50000 → BitVec 32) (b : Fin 64) (d : Fin 256)
    (M : ℝ) :
    (∑ n ∈ Finset.univ.filter (fun n => seg n = BitVec.ofNat 32 b.val), x n d * Ideal.div (Ideal.exp (s n - (M : EReal)))
        ((∑ k ∈ Finset.univ.filter (fun k => seg k = BitVec.ofNat 32 b.val), Ideal.exp (s k - (M : EReal))) + guard * Ideal.exp (-(M : EReal))))
      = pooled x s seg b d := by
  have hc0 : (0 : EReal) ≤ ((Real.exp (-M) : ℝ) : EReal) := EReal.coe_nonneg.mpr (Real.exp_pos _).le
  have hct : ((Real.exp (-M) : ℝ) : EReal) ≠ ⊤ := EReal.coe_ne_top _
  have hcb : ((Real.exp (-M) : ℝ) : EReal) ≠ 0 := by
    intro h; exact (Real.exp_pos (-M)).ne' (EReal.coe_eq_zero.mp h)
  have hcc : ((Real.exp (-M) : ℝ) : EReal) * ((Real.exp (-M) : ℝ) : EReal)⁻¹ = 1 := by
    rw [← EReal.coe_inv, ← EReal.coe_mul, mul_inv_cancel₀ (Real.exp_pos _).ne', EReal.coe_one]
  have hx : ∀ a : EReal, Ideal.exp (a - (M : EReal)) = Ideal.exp a * ((Real.exp (-M) : ℝ) : EReal) := fun a => exp_shift a M
  have hg : Ideal.exp (-(M : EReal)) = ((Real.exp (-M) : ℝ) : EReal) := by rw [← EReal.coe_neg]; rfl
  have hS : (∑ k ∈ Finset.univ.filter (fun k => seg k = BitVec.ofNat 32 b.val), Ideal.exp (s k - (M : EReal)))
      = (∑ n, weight s seg b n) * ((Real.exp (-M) : ℝ) : EReal) := by
    rw [← sum_mul_of_finite _ _ hc0 hct, Finset.sum_filter]
    refine Finset.sum_congr rfl fun n _ => ?_
    unfold weight
    split
    · exact exp_shift _ _
    · rw [zero_mul]
  rw [hS, hg, ← EReal.right_distrib_of_nonneg_of_ne_top hc0 hct]
  unfold pooled
  have hT : 0 < (∑ n, weight s seg b n) + guard :=
    lt_of_lt_of_le guard_pos (le_add_of_nonneg_left (Finset.sum_nonneg fun n _ => weight_nonneg s seg b n))
  generalize (∑ n, weight s seg b n) + guard = T at hT
  generalize ((Real.exp (-M) : ℝ) : EReal) = c at *
  have hTc : T * c ≠ 0 := mul_ne_zero hT.ne' hcb
  have hr0 : 0 ≤ T⁻¹ := EReal.inv_nonneg_of_nonneg hT.le
  have hrt : T⁻¹ ≠ ⊤ := (EReal.inv_lt_top T).ne
  rw [show Ideal.div (∑ n, weight s seg b n * x n d) T = (∑ n, weight s seg b n * x n d) * T⁻¹ from if_neg hT.ne',
    ← sum_mul_of_finite _ _ hr0 hrt, Finset.sum_filter]
  refine Finset.sum_congr rfl fun n _ => ?_
  unfold weight
  split
  · rw [hx, show Ideal.div _ (T * c) = _ * (T * c)⁻¹ from if_neg hTc, EReal.mul_inv]
    calc x n d * (Ideal.exp (s n) * c * (T⁻¹ * c⁻¹)) = Ideal.exp (s n) * x n d * T⁻¹ * (c * c⁻¹) := by ac_rfl
      _ = Ideal.exp (s n) * x n d * T⁻¹ := by rw [hcc, mul_one]
  · rw [zero_mul, zero_mul]

end Cert.Pool

end
-- ==== Proof.RefHead.lean ====
/-
  One head of the reference at an index: where a row's contribution lands, which segment's entry a row reads back, and the head's pooled
  array as the weighted mean of its segment's rows.
-/
module

public import proofs.«01_k».proof.Proof.Algebra
public import proofs.«01_k».proof.Proof.Gen.ReferenceIdeal.Run
public import Idealize.ShloMosaic.Lib.Pointwise
public import Idealize.ShloMosaic.Lib.Routing.OpsPair

@[expose] public section

noncomputable section

open Idealize.ShloMosaic Idealize.ShloMosaic.TcCoe Idealize.SL.Sem

namespace Cert.ReferenceIdeal.Pool

open Cert.Pool

/-- A 32-bit word read as a signed integer is the segment number `b` exactly when it is the word of `b`. -/
theorem toInt_eq_iff (v : BitVec 32) (b : Fin 64) : v.toInt = ((b.val : ℕ) : Int) ↔ v = BitVec.ofNat 32 b.val := by
  constructor
  · intro h
    apply BitVec.eq_of_toInt_eq
    rw [h, StableHlo.Predicate.toInt_ofNat_small _ (by omega)]
  · rintro rfl
    rw [StableHlo.Predicate.toInt_ofNat_small _ (by omega)]

/-- Row `n` of a vector of updates lands at segment `b` exactly when its index word is `b`. -/
theorem lands1 (idx : IVec S50000x1 32) (n : Fin 50000) (b : Fin 64) :
    scatter_S64_S50000x1_S50000_n_0_0_1.resultIdx? (ix1 n) idx = some (ix1 b) ↔ idx (ix2 n 0) = BitVec.ofNat 32 b.val := by
  rw [Routing.resultIdx?_eq_some, ← toInt_eq_iff]
  have hw : scatter_S64_S50000x1_S50000_n_0_0_1.window (ix1 n) 0 = 0 := rfl
  have hs : scatter_S64_S50000x1_S50000_n_0_0_1.start (ix1 n) idx 0 = (idx (ix2 n 0)).toInt := by
    unfold ScatterDims.start
    rw [dif_pos (by exact List.mem_singleton.2 rfl)]
    refine congrArg (fun i => (idx i).toInt) (funext fun q => ?_)
    match q with
    | ⟨0, _⟩ => rfl
    | ⟨1, _⟩ => rfl
  constructor
  · intro h
    have := h 0
    rw [hw, hs] at this
    simpa using this
  · intro h a
    obtain rfl : a = 0 := Subsingleton.elim (α := Fin 1) _ _
    rw [hw, hs]
    simpa using h

/-- Element `(n, e)` of a matrix of update rows lands at `(b, d)` exactly when the row's index word is `b` and the columns agree. -/
theorem lands2 (idx : IVec S50000x1 32) (n : Fin 50000) (e : Fin 256) (b : Fin 64) (d : Fin 256) :
    scatter_S64x256_S50000x1_S50000x256_1_0_0_1.resultIdx? (ix2 n e) idx = some (ix2 b d) ↔
      idx (ix2 n 0) = BitVec.ofNat 32 b.val ∧ e = d := by
  rw [Routing.resultIdx?_eq_some, ← toInt_eq_iff]
  have hw0 : scatter_S64x256_S50000x1_S50000x256_1_0_0_1.window (ix2 n e) 0 = 0 := rfl
  have hw1 : scatter_S64x256_S50000x1_S50000x256_1_0_0_1.window (ix2 n e) 1 = e.val := rfl
  have hs0 : scatter_S64x256_S50000x1_S50000x256_1_0_0_1.start (ix2 n e) idx 0 = (idx (ix2 n 0)).toInt := by
    unfold ScatterDims.start
    rw [dif_pos (by exact List.mem_singleton.2 rfl)]
    refine congrArg (fun i => (idx i).toInt) (funext fun q => ?_)
    match q with
    | ⟨0, _⟩ => rfl
    | ⟨1, _⟩ => rfl
  have hs1 : scatter_S64x256_S50000x1_S50000x256_1_0_0_1.start (ix2 n e) idx 1 = 0 := by
    unfold ScatterDims.start
    rw [dif_neg (by decide +revert)]
  constructor
  · intro h
    have h0 := h 0
    have h1 := h 1
    rw [hw0, hs0] at h0
    rw [hw1, hs1] at h1
    refine ⟨by simpa using h0, Fin.ext ?_⟩
    have h1' : (0 : Int) + (e.val : Int) = (d.val : Int) := h1
    omega
  · rintro ⟨h, rfl⟩ a
    match a with
    | ⟨0, _⟩ => show scatter_S64x256_S50000x1_S50000x256_1_0_0_1.start (ix2 n e) idx 0 + ((scatter_S64x256_S50000x1_S50000x256_1_0_0_1.window (ix2 n e) 0 : ℕ) : Int) = _; rw [hw0, hs0]; simpa using h
    | ⟨1, _⟩ => show scatter_S64x256_S50000x1_S50000x256_1_0_0_1.start (ix2 n e) idx 1 + ((scatter_S64x256_S50000x1_S50000x256_1_0_0_1.window (ix2 n e) 1 : ℕ) : Int) = _; rw [hw1, hs1]; exact Int.zero_add _

/-- A row whose index word is `b` reads segment `b`'s entry. -/
theorem gather_at (v : FVec Ideal S64 .f32) (idx : IVec S50000x1 32) (n : Fin 50000) (b : Fin 64)
    (h : idx (ix2 n 0) = BitVec.ofNat 32 b.val) :
    Host.gather gather_S64_S50000x1_S50000_n_0_n_n_0_1_1 v idx (ix1 n) = v (ix1 b) := by
  unfold Host.gather
  refine congrArg v (funext fun a => ?_)
  obtain rfl : a = 0 := Subsingleton.elim (α := Fin 1) _ _
  apply Fin.ext
  show gather_S64_S50000x1_S50000_n_0_n_n_0_1_1.start (ix1 n) idx 0 + gather_S64_S50000x1_S50000_n_0_n_n_0_1_1.batchCoord (ix1 n) 0
    + gather_S64_S50000x1_S50000_n_0_n_n_0_1_1.offCoord (ix1 n) 0 = b.val
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (by exact List.mem_singleton.2 rfl)]
  have hi : gather_S64_S50000x1_S50000_n_0_n_n_0_1_1.siIdx (ix1 n)
      ⟨gather_S64_S50000x1_S50000_n_0_n_n_0_1_1.startIndexMap.idxOf 0, List.idxOf_lt_length_iff.2 (by exact List.mem_singleton.2 rfl)⟩ = ix2 n 0 := by
    funext q
    match q with
    | ⟨0, _⟩ => rfl
    | ⟨1, _⟩ => rfl
  rw [hi, h, StableHlo.Predicate.toInt_ofNat_small _ (by omega)]
  show min ((b.val : Int)).toNat (64 - 1) + 0 + 0 = b.val
  omega

/-- The accumulating scatter of a vector at segment `b`: the sum over the segment's rows. -/
theorem scatter1_at (z : FVec Ideal S64 .f32) (idx : IVec S50000x1 32) (upd : FVec Ideal S50000 .f32) (b : Fin 64) :
    (Host.scatterAdd scatter_S64_S50000x1_S50000_n_0_0_1 z idx upd : FVec Ideal S64 .f32) (ix1 b)
      = z (ix1 b) + ∑ n ∈ Finset.univ.filter (fun n : Fin 50000 => idx (ix2 n 0) = BitVec.ofNat 32 b.val), upd (ix1 n) := by
  show z (ix1 b) + ∑ j ∈ Finset.univ.filter (fun j => scatter_S64_S50000x1_S50000_n_0_0_1.resultIdx? j idx = some (ix1 b)), upd j = _
  rw [Finset.sum_filter, sum_idx1, Finset.sum_filter]
  simp only [lands1]

/-- The accumulating scatter of a matrix's rows at `(b, d)`: the sum over the segment's rows at column `d`. -/
theorem scatter2_at (z : FVec Ideal S64x256 .f32) (idx : IVec S50000x1 32) (upd : FVec Ideal S50000x256 .f32) (b : Fin 64) (d : Fin 256) :
    (Host.scatterAdd scatter_S64x256_S50000x1_S50000x256_1_0_0_1 z idx upd : FVec Ideal S64x256 .f32) (ix2 b d)
      = z (ix2 b d) + ∑ n ∈ Finset.univ.filter (fun n : Fin 50000 => idx (ix2 n 0) = BitVec.ofNat 32 b.val), upd (ix2 n d) := by
  show z (ix2 b d) + ∑ j ∈ Finset.univ.filter (fun j => scatter_S64x256_S50000x1_S50000x256_1_0_0_1.resultIdx? j idx = some (ix2 b d)), upd j = _
  rw [Finset.sum_filter, sum_idx2, Finset.sum_filter]
  simp only [lands2]
  refine congrArg (z (ix2 b d) + ·) (Finset.sum_congr rfl fun n _ => ?_)
  by_cases h : idx (ix2 n 0) = BitVec.ofNat 32 b.val
  · simp [h]
  · simp [h]

end Cert.ReferenceIdeal.Pool

end
-- ==== Proof.RefPool.lean ====
/-
  The reference's segment softmax and pooling for one head, from the head's scores and any array in the place of the segment maxima: the
  shift a row reads is one real number per segment, so it cancels, and the pooled array is the weighted mean of the segment's rows.
-/
module

public import proofs.«01_k».proof.Proof.RefHead

@[expose] public section

noncomputable section

open Idealize.ShloMosaic Idealize.ShloMosaic.TcCoe Idealize.SL.Sem

namespace Cert.ReferenceIdeal.Pool

open Cert.Pool Facts₀

/-- The segment numbers as a column. -/
def col (seg : IVec S50000 32) : IVec S50000x1 32 := broadcastInDim S50000x1 ![0] bcast_S50000_S50000x1_0 seg

/-- The segment numbers, counted from the end where negative, as a column. -/
def wrapped (seg : IVec S50000 32) : IVec S50000x1 32 :=
  broadcastInDim S50000x1 ![0] bcast_S50000_S50000x1_0 (select (cmpi .slt seg (broadcastInDim S50000 ![] bcast_S_S50000 (constantI S_ 32 0#32))) (addi seg (broadcastInDim S50000 ![] bcast_S_S50000 (constantI S_ 32 64#32))) seg)

/-- The segment maxima with every infinite one replaced by zero. -/
def finiteMax (mx : FVec Ideal S64 .f32) : FVec Ideal S64 .f32 :=
  select (cmpf .olt (Host.absf mx) (broadcastInDim S64 ![] bcast_S_S64 (constant S_ .f32 0x7F800000#32))) mx (broadcastInDim S64 ![] bcast_S_S64 (id (constant S_ .f32 0x00000000#32)))

/-- The shift each row subtracts. -/
def shift (mx : FVec Ideal S64 .f32) (seg : IVec S50000 32) : FVec Ideal S50000 .f32 :=
  Host.gather gather_S64_S50000x1_S50000_n_0_n_n_0_1_1 (finiteMax mx) (wrapped seg)

/-- The exponentials of the shifted scores. -/
def expo (s sh : FVec Ideal S50000 .f32) : FVec Ideal S50000 .f32 := Host.exp (subf s sh)

/-- One head's pooled array. -/
def headOut (x : FVec Ideal S50000x256 .f32) (seg : IVec S50000 32) (ex sh : FVec Ideal S50000 .f32) : FVec Ideal S64x256 .f32 :=
  Host.scatterAdd scatter_S64x256_S50000x1_S50000x256_1_0_0_1 (broadcastInDim S64x256 ![] bcast_S_S64x256 (constant S_ .f32 0x00000000#32)) (col seg) (mulf x (broadcastInDim S50000x256 ![0, 1] bcast_S50000x1_S50000x256_0_1 (broadcastInDim S50000x1 ![0] bcast_S50000_S50000x1_0 (Host.divf ex (addf (Host.gather gather_S64_S50000x1_S50000_n_0_n_n_0_1_1 (Host.scatterAdd scatter_S64_S50000x1_S50000_n_0_0_1 (broadcastInDim S64 ![] bcast_S_S64 (constant S_ .f32 0x00000000#32)) (col seg) ex) (wrapped seg)) (mulf (broadcastInDim S50000 ![] bcast_S_S50000 (constant S_ .f32 0x24E69595#32)) (Host.exp (Host.negf sh))))))))

theorem col_at (seg : IVec S50000 32) (n : Fin 50000) : col seg (ix2 n 0) = seg (ix1 n) := by
  unfold col
  pointwise

/-- A segment's own number is not negative, so it is read as it is. -/
theorem wrapped_at (seg : IVec S50000 32) (n : Fin 50000) (b : Fin 64) (h : seg (ix1 n) = BitVec.ofNat 32 b.val) :
    wrapped seg (ix2 n 0) = BitVec.ofNat 32 b.val := by
  unfold wrapped
  pointwise
  rw [h]
  refine Routing.wrap_of_lt _ _ ?_
  rw [BitVec.toNat_ofNat]
  omega

/-- What replaces a segment's maximum is a real number. -/
theorem finiteMax_real (mx : FVec Ideal S64 .f32) (b : Fin 64) : ∃ M : ℝ, finiteMax mx (ix1 b) = (M : EReal) := by
  have e : finiteMax mx (ix1 b) = if max (mx (ix1 b)) (-(mx (ix1 b))) < (⊤ : EReal) then mx (ix1 b) else 0 := by
    unfold finiteMax
    pointwise
    have hi : (Ideal.ofBits .f32 2139095040#32 : EReal) = ⊤ := by simp [Ideal.ofBits, Ideal.ieee]
    have hz : (id (constant S_ .f32 0#32 : FVec Ideal S_ .f32) ix0 : EReal) = 0 := by
      show Ideal.ofBits .f32 0#32 = 0
      simp [Ideal.ofBits, Ideal.ieee]
    rw [hi, hz]
    rfl
  rw [e]
  generalize (mx (ix1 b) : EReal) = a
  induction a using EReal.rec with
  | bot => exact ⟨0, by simp⟩
  | coe r => exact ⟨r, by rw [if_pos (max_lt (EReal.coe_lt_top r) (by rw [← EReal.coe_neg]; exact EReal.coe_lt_top _))]⟩
  | top => exact ⟨0, by simp⟩

theorem headOut_at (x : FVec Ideal S50000x256 .f32) (seg : IVec S50000 32) (s : FVec Ideal S50000 .f32) (mx : FVec Ideal S64 .f32)
    (b : Fin 64) (d : Fin 256) :
    headOut x seg (expo s (shift mx seg)) (shift mx seg) (ix2 b d)
      = pooled (fun n d => x (ix2 n d)) (fun n => s (ix1 n)) (fun n => seg (ix1 n)) b d := by
  obtain ⟨M, hM⟩ := finiteMax_real mx b
  have hsh : ∀ n : Fin 50000, seg (ix1 n) = BitVec.ofNat 32 b.val → shift mx seg (ix1 n) = (M : EReal) := fun n h => by
    unfold shift
    rw [gather_at _ _ n b (wrapped_at seg n b h), hM]
  have hex : ∀ n : Fin 50000, seg (ix1 n) = BitVec.ofNat 32 b.val → expo s (shift mx seg) (ix1 n) = Ideal.exp (s (ix1 n) - (M : EReal)) := fun n h => by
    unfold expo
    pointwise
    rw [hsh n h]
  rw [← pooled_shift _ _ _ _ _ M]
  unfold headOut
  rw [scatter2_at]
  pointwise
  simp only [col_at]
  refine Finset.sum_congr rfl fun n hn => ?_
  have hn' : seg (ix1 n) = BitVec.ofNat 32 b.val := (Finset.mem_filter.1 hn).2
  have hz : (broadcastInDim S64 ![] bcast_S_S64 (constant S_ .f32 0#32 : FVec Ideal S_ .f32) : FVec Ideal S64 .f32) (ix1 b) = (0 : EReal) := by
    show Ideal.ofBits .f32 0#32 = 0
    simp [Ideal.ofBits, Ideal.ieee]
  rw [gather_at _ _ n b (wrapped_at seg n b hn'), scatter1_at, hz, zero_add, hex n hn', hsh n hn']
  simp only [col_at]
  rw [Finset.sum_congr rfl fun k hk => hex k (Finset.mem_filter.1 hk).2]
  rfl

end Cert.ReferenceIdeal.Pool

end
-- ==== Proof.RefOut.lean ====
/-
  The reference's result at an index: each head's scores, its pooled array, the four set side by side, and the projection of them.
-/
module

public import proofs.«01_k».proof.Proof.RefPool

@[expose] public section

noncomputable section

open Idealize.ShloMosaic Idealize.ShloMosaic.TcCoe Idealize.SL.Sem

namespace Cert.ReferenceIdeal.Pool

open Cert.ReferenceIdeal Cert.ReferenceIdeal.Gen Cert.ReferenceIdeal.Value Cert.Pool

variable (V : Valuation τ sig (Elt Ideal))

/-- The rows. -/
def valX (n : Fin 50000) (d : Fin 256) : EReal := (V (Proc.devRef .tc main_arg0) : FVec Ideal S50000x256 .f32) (ix2 n d)
/-- The segment numbers. -/
def valSeg (n : Fin 50000) : BitVec 32 := (V (Proc.devRef .tc main_arg1) : IVec S50000 32) (ix1 n)
/-- The heads' weights. -/
def valW (h : Fin 4) (k : Fin 128) (d : Fin 256) : EReal := (V (Proc.devRef .tc main_arg2) : FVec Ideal S4x128x256 .f32) (ix3 h k d)
/-- The heads' biases. -/
def valBias (h : Fin 4) (k : Fin 128) : EReal := (V (Proc.devRef .tc main_arg3) : FVec Ideal S4x128 .f32) (ix2 h k)
/-- The heads' context vectors. -/
def valU (h : Fin 4) (k : Fin 128) : EReal := (V (Proc.devRef .tc main_arg4) : FVec Ideal S4x128 .f32) (ix2 h k)
/-- The projection. -/
def valP (j : Fin 256) (e : Fin 1024) : EReal := (V (Proc.devRef .tc main_arg5) : FVec Ideal S256x1024 .f32) (ix2 j e)
/-- The projection's bias. -/
def valB (j : Fin 256) : EReal := (V (Proc.devRef .tc main_arg6) : FVec Ideal S256 .f32) (ix1 j)

/-- Head 0's scores, its bias being zero. -/
theorem score0_at (hb : ∀ h k, valBias V h k = 0) (n : Fin 50000) :
    (res_main_v12 V : FVec Ideal S50000 .f32) (ix1 n) = score (valX V) (valW V) (valU V) 0 n := by
  have hb' : ∀ k, (V (Proc.devRef .tc main_arg3) : FVec Ideal S4x128 .f32) (ix2 0 k) = (0 : EReal) := fun k => hb 0 k
  unfold res_main_v12
  pointwise
  simp only [hb', add_zero]
  rfl

/-- Head 1's scores, its bias being zero. -/
theorem score1_at (hb : ∀ h k, valBias V h k = 0) (n : Fin 50000) :
    (res_main_v69 V : FVec Ideal S50000 .f32) (ix1 n) = score (valX V) (valW V) (valU V) 1 n := by
  have hb' : ∀ k, (V (Proc.devRef .tc main_arg3) : FVec Ideal S4x128 .f32) (ix2 1 k) = (0 : EReal) := fun k => hb 1 k
  unfold res_main_v69
  pointwise
  simp only [hb', add_zero]
  rfl

/-- Head 2's scores, its bias being zero. -/
theorem score2_at (hb : ∀ h k, valBias V h k = 0) (n : Fin 50000) :
    (res_main_v126 V : FVec Ideal S50000 .f32) (ix1 n) = score (valX V) (valW V) (valU V) 2 n := by
  have hb' : ∀ k, (V (Proc.devRef .tc main_arg3) : FVec Ideal S4x128 .f32) (ix2 2 k) = (0 : EReal) := fun k => hb 2 k
  unfold res_main_v126
  pointwise
  simp only [hb', add_zero]
  rfl

/-- Head 3's scores, its bias being zero. -/
theorem score3_at (hb : ∀ h k, valBias V h k = 0) (n : Fin 50000) :
    (res_main_v183 V : FVec Ideal S50000 .f32) (ix1 n) = score (valX V) (valW V) (valU V) 3 n := by
  have hb' : ∀ k, (V (Proc.devRef .tc main_arg3) : FVec Ideal S4x128 .f32) (ix2 3 k) = (0 : EReal) := fun k => hb 3 k
  unfold res_main_v183
  pointwise
  simp only [hb', add_zero]
  rfl

/-- One head's pooled array, from its scores and its segment maxima. -/
def headWith (s : FVec Ideal S50000 .f32) (mx : FVec Ideal S64 .f32) : FVec Ideal S64x256 .f32 :=
  headOut (V (Proc.devRef .tc main_arg0)) (V (Proc.devRef .tc main_arg1))
    (expo s (shift mx (V (Proc.devRef .tc main_arg1)))) (shift mx (V (Proc.devRef .tc main_arg1)))

theorem headWith_at (s : FVec Ideal S50000 .f32) (mx : FVec Ideal S64 .f32) (h : Fin 4)
    (hs : ∀ n, s (ix1 n) = score (valX V) (valW V) (valU V) h n) (b : Fin 64) (d : Fin 256) :
    headWith V s mx (ix2 b d) = pooled (valX V) (score (valX V) (valW V) (valU V) h) (valSeg V) b d := by
  unfold headWith
  rw [headOut_at]
  simp only [hs]
  rfl

/-- The array the reference projects. -/
def projected : FVec Ideal S64x1024 .f32 := res_main_v228 V

set_option maxRecDepth 8192 in
/-- The array the reference projects is the four heads' pooled arrays side by side. -/
theorem concat_eq : projected V =
    concatenate S64x1024 1 [⟨S64x256, headWith V (res_main_v12 V) (res_main_v21 V)⟩, ⟨S64x256, headWith V (res_main_v69 V) (res_main_v78 V)⟩,
        ⟨S64x256, headWith V (res_main_v126 V) (res_main_v135 V)⟩, ⟨S64x256, headWith V (res_main_v183 V) (res_main_v192 V)⟩]
      concatenates_S64x256_S64x256_S64x256_S64x256_S64x1024_d1 := by
  unfold projected res_main_v228 headWith headOut expo shift finiteMax wrapped col
  unfold res_main_v34 res_main_v91 res_main_v148 res_main_v205 res_main_v32 res_main_v89 res_main_v146 res_main_v203
  rfl

/-- Four arrays of 256 columns side by side: column `256 h + d` is column `d` of the `h`-th. -/
theorem concat_at (q0 q1 q2 q3 : FVec Ideal S64x256 .f32) (b : Fin 64) (h : Fin 4) (d : Fin 256) :
    (concatenate S64x1024 1 [⟨S64x256, q0⟩, ⟨S64x256, q1⟩, ⟨S64x256, q2⟩, ⟨S64x256, q3⟩]
      concatenates_S64x256_S64x256_S64x256_S64x256_S64x1024_d1 : FVec Ideal S64x1024 .f32) (ix2 b ⟨256 * h.val + d.val, by omega⟩)
      = (match h with | 0 => q0 | 1 => q1 | 2 => q2 | 3 => q3) (ix2 b d) := by
  match h with
  | 0 =>
    pointwise
  | 1 =>
    pointwise
  | 2 =>
    pointwise
    rw [dif_neg (by omega)]
    rw [dif_neg (by omega)]
    rw [dif_pos (by omega)]
    exact congrArg q2 (congrArg (ix2 b) (Fin.ext (by show _ = d.val; dsimp only; omega)))
  | 3 =>
    pointwise
    rw [dif_neg (by omega)]
    rw [dif_neg (by omega)]
    rw [dif_neg (by omega)]
    exact congrArg q3 (congrArg (ix2 b) (Fin.ext (by show _ = d.val; dsimp only; omega)))

theorem projected_at (hb : ∀ h k, valBias V h k = 0) (b : Fin 64) (h : Fin 4) (d : Fin 256) :
    projected V (ix2 b ⟨256 * h.val + d.val, by omega⟩) = pooled (valX V) (score (valX V) (valW V) (valU V) h) (valSeg V) b d := by
  rw [concat_eq, concat_at]
  match h with
  | 0 => exact headWith_at V _ _ 0 (score0_at V hb) b d
  | 1 => exact headWith_at V _ _ 1 (score1_at V hb) b d
  | 2 => exact headWith_at V _ _ 2 (score2_at V hb) b d
  | 3 => exact headWith_at V _ _ 3 (score3_at V hb) b d

/-- The projection of a pooled array, and the bias. -/
def project (q : FVec Ideal S64x1024 .f32) (p : FVec Ideal S256x1024 .f32) (bias : FVec Ideal S256 .f32) : FVec Ideal S64x256 .f32 :=
  addf (Host.dotGeneral dot_S64x1024_S1024x256_S64x256_1_0_0_1_n_n none q (transpose S1024x256 [1, 0] p transposes_S256x1024_S1024x256_1_0)) (broadcastInDim S64x256 ![0, 1] bcast_S1x256_S64x256_0_1 (broadcastInDim S1x256 ![1] bcast_S256_S1x256_1 bias))

theorem project_at (q : FVec Ideal S64x1024 .f32) (p : FVec Ideal S256x1024 .f32) (bias : FVec Ideal S256 .f32) (b : Fin 64) (j : Fin 256) :
    project q p bias (ix2 b j) = (∑ e : Fin 1024, q (ix2 b e) * p (ix2 j e)) + bias (ix1 j) := by
  unfold project
  pointwise

/-- The reference's result at an index. -/
theorem result_at (hb : ∀ h k, valBias V h k = 0) (b : Fin 64) (j : Fin 256) :
    project (projected V) (V (Proc.devRef .tc main_arg5)) (V (Proc.devRef .tc main_arg6)) (ix2 b j)
      = out (valX V) (valSeg V) (valW V) (valU V) (valP V) (valB V) b j := by
  rw [project_at]
  unfold out
  simp only [← projected_at V hb]
  rw [sum_heads (fun e => projected V (ix2 b e) * valP V j e)]
  rfl

end Cert.ReferenceIdeal.Pool

end
-- ==== Proof.ZeroBias.lean ====
/-
  The precondition read: the heads' biases are zero at every element.
-/
module

public import proofs.«01_k».proof.Defs
public import proofs.«01_k».proof.Proof.Gen.Pre_zero_bias
public import Idealize.ShloMosaic.Lib.Pointwise

@[expose] public section

noncomputable section

open Idealize.ShloMosaic Idealize.ShloMosaic.TcCoe Idealize.SL.Sem

namespace Cert.Pre_zero_bias.Pool

/-- Where the comparison of the biases with zero is all ones, every bias is zero. -/
theorem bias_zero (x : FVec Ideal S50000x256 .f32) (seg : IVec S50000 32) (w : FVec Ideal S4x128x256 .f32) (bias u : FVec Ideal S4x128 .f32)
    (p : FVec Ideal S256x1024 .f32) (o : FVec Ideal S256 .f32) (hp : fn (F := Ideal) x seg w bias u p o = fun _ => 1#1) (h : Fin 4) (k : Fin 128) :
    bias (ix2 h k) = (0 : EReal) := by
  have e : BitVec.ofBool (decide ((bias (ix2 h k) : EReal) = Ideal.ofBits .f32 0#32)) = 1#1 := congrFun hp (ix2 h k)
  have hz : (Ideal.ofBits .f32 0#32 : EReal) = 0 := by simp [Ideal.ofBits, Ideal.ieee]
  rw [hz] at e
  by_contra hne
  rw [decide_eq_false hne] at e
  exact absurd e (by decide)

end Cert.Pre_zero_bias.Pool

end
-- ==== Proof.lean ====
/-
  The claims about the pooling kernel and its reference, assembled: the frames from the generated runs, and the equation of the two results
  from what each array holds at an element.
-/
module

public import proofs.«01_k».proof.Defs
public import proofs.«01_k».proof.Proof.Gen.Kernel.Frame
public import proofs.«01_k».proof.Proof.Gen.KernelIdeal.Value
public import proofs.«01_k».proof.Proof.Gen.Pre_zero_bias
public import proofs.«01_k».proof.Proof.Gen.ReferenceIdeal.Run
public import proofs.«01_k».proof.Proof.KernelOut
public import proofs.«01_k».proof.Proof.RefOut
public import proofs.«01_k».proof.Proof.ZeroBias
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference terminates, leaves its arguments as they were, and has no semaphore. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the launches whose biases are zero. -/
theorem quiescent_ReferenceIdeal_pre_zero_bias : quiescent_ReferenceIdeal_pre_zero_bias := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array and the reference's hold the same values when the heads' biases are zero. -/
theorem algebraic_KernelIdeal_ReferenceIdeal_pre_zero_bias : algebraic_KernelIdeal_ReferenceIdeal_pre_zero_bias := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4, a5, a6⟩ := hagree c
  have hb : ∀ h k, Cert.ReferenceIdeal.Pool.valBias (StableHlo.launchContents m' c) h k = 0 := fun h k =>
    (congrFun a3 (ix2 h k)).trans (Cert.Pre_zero_bias.Pool.bias_zero _ _ _ _ _ _ _ (hpre c) h k)
  have e0 : Cert.ReferenceIdeal.Pool.valX (StableHlo.launchContents m' c) = Cert.KernelIdeal.Pool.argX m c := funext fun n => funext fun d => congrFun a0 (ix2 n d)
  have e1 : Cert.ReferenceIdeal.Pool.valSeg (StableHlo.launchContents m' c) = Cert.KernelIdeal.Pool.argSeg m c := funext fun n => congrFun a1 (ix1 n)
  have e2 : Cert.ReferenceIdeal.Pool.valW (StableHlo.launchContents m' c) = Cert.KernelIdeal.Pool.argW m c := funext fun h => funext fun k => funext fun d => congrFun a2 (ix3 h k d)
  have e4 : Cert.ReferenceIdeal.Pool.valU (StableHlo.launchContents m' c) = Cert.KernelIdeal.Pool.argU m c := funext fun h => funext fun k => congrFun a4 (ix2 h k)
  have e5 : Cert.ReferenceIdeal.Pool.valP (StableHlo.launchContents m' c) = Cert.KernelIdeal.Pool.argP m c := funext fun j => funext fun e => congrFun a5 (ix2 j e)
  have e6 : Cert.ReferenceIdeal.Pool.valB (StableHlo.launchContents m' c) = Cert.KernelIdeal.Pool.argB m c := funext fun j => congrFun a6 (ix1 j)
  funext i
  rw [← ix2_eta i]
  refine (Cert.ReferenceIdeal.Pool.result_at (StableHlo.launchContents m' c) hb (i 0) (i 1)).trans ?_
  rw [e0, e1, e2, e4, e5, e6]
  exact (Cert.KernelIdeal.Pool.result_at m c (i 0) (i 1)).symm

/-- Everything claimed. -/
theorem claim : Cert.Claim := ⟨Cert.Kernel.Gen.facts, Cert.KernelIdeal.Gen.facts, Cert.ReferenceIdeal.Gen.facts, Cert.Pre_zero_bias.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre_zero_bias, (trivial : preserves_Kernel_KernelIdeal), algebraic_KernelIdeal_ReferenceIdeal_pre_zero_bias⟩

end Cert.Proof

end
